-- ==== Defs.lean ====
def Pre_Kernel [hPre_names_an_edit : Cert.Pre_names_an_edit.Facts] (m : (ℓ : Loc Cert.Kernel.nD Cert.Kernel.τ Cert.Kernel.sig) → Buf (Elt Bits) ℓ) : Prop :=
  ∀ c : Dev Cert.Kernel.nD,
    (Cert.Pre_names_an_edit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_names_an_edit : Cert.Pre_names_an_edit.Facts] (m : (ℓ : Loc Cert.KernelIdeal.nD Cert.KernelIdeal.τ Cert.KernelIdeal.sig) → Buf (Elt Ideal) ℓ) : Prop :=
  ∀ c : Dev Cert.KernelIdeal.nD,
    (Cert.Pre_names_an_edit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_names_an_edit [hPre_names_an_edit : Cert.Pre_names_an_edit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_names_an_edit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_names_an_edit : Cert.Pre_names_an_edit.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_names_an_edit : Cert.Pre_names_an_edit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_names_an_edit [hReferenceIdeal : Cert.ReferenceIdeal.Facts] [hPre_names_an_edit : Cert.Pre_names_an_edit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_names_an_edit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_names_an_edit : Cert.Pre_names_an_edit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_names_an_edit : Cert.Pre_names_an_edit.Facts),
    quiescent_Kernel (hKernel := hKernel) (hPre_names_an_edit := hPre_names_an_edit)
    ∧ quiescent_KernelIdeal (hKernelIdeal := hKernelIdeal) (hPre_names_an_edit := hPre_names_an_edit)
    ∧ quiescent_ReferenceIdeal (hReferenceIdeal := hReferenceIdeal)
    ∧ quiescent_ReferenceIdeal_pre_names_an_edit (hReferenceIdeal := hReferenceIdeal) (hPre_names_an_edit := hPre_names_an_edit)
    ∧ preserves_Kernel_KernelIdeal
    ∧ algebraic_KernelIdeal_ReferenceIdeal (hKernelIdeal := hKernelIdeal) (hReferenceIdeal := hReferenceIdeal) (hPre_names_an_edit := hPre_names_an_edit)
-- ==== Pre_names_an_edit.lean ====
abbrev S_ : Shape := ⟨0, ![]⟩
abbrev S4x4096x1024 : Shape := ⟨3, ![4, 4096, 1024]⟩
abbrev S100000x1024 : Shape := ⟨2, ![100000, 1024]⟩
abbrev S100000 : Shape := ⟨1, ![100000]⟩

class Facts : Prop where

variable [Facts]

def fn {F : FTy → Type} [FloatOps F] (main_arg0 : IVec S_ 32) (main_arg1 : FVec F S4x4096x1024 .f32) (main_arg2 : FVec F S100000x1024 .f32) (main_arg3 : FVec F S100000x1024 .f32) (main_arg4 : FVec F S100000 .f32) (main_arg5 : FVec F S100000 .f32) : IVec S_ 1 :=
  let main_c : IVec S_ 32 := constantI S_ 32 0#32
  let main_v0 : IVec S_ 1 := cmpi .sge main_arg0 main_c
  let main_c_0 : IVec S_ 32 := constantI S_ 32 99999#32
  let main_v1 : IVec S_ 1 := cmpi .sle main_arg0 main_c_0
  let main_v2 : IVec S_ 1 := andi main_v0 main_v1
  main_v2
-- ==== Kernel.lean ====
abbrev S_ : Shape := ⟨0, ![]⟩
abbrev S4x4096x1024 : Shape := ⟨3, ![4, 4096, 1024]⟩
abbrev S100000x1024 : Shape := ⟨2, ![100000, 1024]⟩
abbrev S100000 : Shape := ⟨1, ![100000]⟩
abbrev S16384x1024 : Shape := ⟨2, ![16384, 1024]⟩
abbrev S1 : Shape := ⟨1, ![1]⟩
abbrev S100096 : Shape := ⟨1, ![100096]⟩
abbrev S2048x1024 : Shape := ⟨2, ![2048, 1024]⟩
abbrev S1x1024 : Shape := ⟨2, ![1, 1024]⟩
abbrev S128 : Shape := ⟨1, ![128]⟩
abbrev S4 : Shape := ⟨1, ![4]⟩

abbrev nBuf : Space → Nat
  | .hbm => 15
  | .vmem => 7
  | .smem => 3
  | _ => 0

abbrev bufTy : (tb : Table) → Fin (tcTables nBuf tb) → BufTy
  | .hbm, ⟨0, _⟩ => ⟨S_, .i32⟩
  | .hbm, ⟨1, _⟩ => ⟨S4x4096x1024, .f32⟩
  | .hbm, ⟨2, _⟩ => ⟨S100000x1024, .f32⟩
  | .hbm, ⟨3, _⟩ => ⟨S100000x1024, .f32⟩
  | .hbm, ⟨4, _⟩ => ⟨S100000, .f32⟩
  | .hbm, ⟨5, _⟩ => ⟨S100000, .f32⟩
  | .hbm, ⟨6, _⟩ => ⟨S16384x1024, .f32⟩
  | .hbm, ⟨7, _⟩ => ⟨S_, .i32⟩
  | .hbm, ⟨8, _⟩ => ⟨S_, .f32⟩
  | .hbm, ⟨9, _⟩ => ⟨S100096, .f32⟩
  | .hbm, ⟨10, _⟩ => ⟨S_, .i32⟩
  | .hbm, ⟨11, _⟩ => ⟨S_, .f32⟩
  | .hbm, ⟨12, _⟩ => ⟨S100096, .f32⟩
  | .hbm, ⟨13, _⟩ => ⟨S16384x1024, .f32⟩
  | .hbm, ⟨14, _⟩ => ⟨S4x4096x1024, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .f32⟩
  | .local _ .vmem, ⟨3, _⟩ => ⟨S2048x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .smem, ⟨0, _⟩ => ⟨S1, .i32⟩
  | .local _ .smem, ⟨1, _⟩ => ⟨S128, .f32⟩
  | .local _ .smem, ⟨2, _⟩ => ⟨S128, .f32⟩
  | _, _ => ⟨S_, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch4 : Ref sig .tc := ⟨.vmem, 6, rfl⟩
abbrev cc0_scratch2 : Ref sig .tc := ⟨.smem, 1, rfl⟩
abbrev cc0_scratch3 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_v1.idx], fun | 0 => main_v1.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (v9 : BitVec 32) : Fin 2 → Nat :=
  let c0_i32_14 : BitVec 32 := 0#32
  ![v9.toNat, 0]

def k0_off2 (v9 : BitVec 32) : Fin 1 → Nat :=
  let c0_i32_7 : BitVec 32 := 0#32
  let v11 : BitVec 1 := Scalar.cmpi .sgt v9 c0_i32_7
  let v12 : BitVec 32 := Scalar.extui v11
  let c0_i32_8 : BitVec 32 := 0#32
  let v13 : BitVec 1 := Scalar.cmpi .slt v9 c0_i32_8
  let v14 : BitVec 32 := Scalar.extui v13
  let v15 : BitVec 32 := Scalar.subi v12 v14
  let c128_i32 : BitVec 32 := 128#32
  let c0_i32_9 : BitVec 32 := 0#32
  let v16 : BitVec 1 := Scalar.cmpi .sgt c128_i32 c0_i32_9
  let v17 : BitVec 32 := Scalar.extui v16
  let c0_i32_10 : BitVec 32 := 0#32
  let v18 : BitVec 1 := Scalar.cmpi .slt c128_i32 c0_i32_10
  let v19 : BitVec 32 := Scalar.extui v18
  let v20 : BitVec 32 := Scalar.subi v17 v19
  let v21 : BitVec 1 := Scalar.cmpi .ne v15 v20
  let v22 : BitVec 32 := Scalar.remsi v9 c128_i32
  let c0_i32_11 : BitVec 32 := 0#32
  let v23 : BitVec 1 := Scalar.cmpi .ne v22 c0_i32_11
  let v24 : BitVec 1 := Scalar.andi v21 v23
  let v10 : BitVec 32 := Scalar.divsi v9 c128_i32
  let c1_i32 : BitVec 32 := 1#32
  let v25 : BitVec 32 := Scalar.subi v10 c1_i32
  let v26 : BitVec 32 := Scalar.select v24 v25 v10
  let c128_i32_12 : BitVec 32 := 128#32
  let v27 : BitVec 32 := Scalar.muli v26 c128_i32_12
  ![v27.toNat]
def k0_off3 (v9 : BitVec 32) : Fin 1 → Nat :=
  let c128_i32_23 : BitVec 32 := 128#32
  let c0_i32_24 : BitVec 32 := 0#32
  let v52 : BitVec 1 := Scalar.cmpi .eq c128_i32_23 c0_i32_24
  let c1_i32_25 : BitVec 32 := 1#32
  let v53 : BitVec 32 := Scalar.select v52 c1_i32_25 c128_i32_23
  let v54 : BitVec 32 := Scalar.remsi v9 v53
  let c0_i32_27 : BitVec 32 := 0#32
  let v56 : BitVec 1 := Scalar.cmpi .slt v54 c0_i32_27
  let c0_i32_28 : BitVec 32 := 0#32
  let v57 : BitVec 1 := Scalar.cmpi .slt v53 c0_i32_28
  let v58 : BitVec 1 := Scalar.xori v56 v57
  let c0_i32_26 : BitVec 32 := 0#32
  let v55 : BitVec 1 := Scalar.cmpi .ne v54 c0_i32_26
  let v59 : BitVec 1 := Scalar.andi v58 v55
  let v60 : BitVec 32 := Scalar.addi v54 v53
  let v61 : BitVec 32 := Scalar.select v59 v60 v54
  let v62 : Index := Scalar.indexCast v61
  ![v62.toNat]

def k0_chk1 (i : grid0.Coords) (v9 : BitVec 32) : Prop :=
  (∀ (k0_h1 : k0_cond1 i = 1#1), ∀ a, (k0_off1 v9) a + S1x1024.size a ≤ S100000x1024.size a) ∧
  (∀ (k0_h1 : k0_cond1 i = 1#1), ∀ a, (k0_off2 v9) a + S128.size a ≤ S100096.size a) ∧
  (∀ (k0_h1 : k0_cond1 i = 1#1), ∀ a, (k0_off3 v9) a + S1.size a ≤ S128.size a)
theorem k0_off1_inb : ∀ (i : grid0.Coords) (v9 : BitVec 32) (k0_hw1 : k0_chk1 i v9), ∀ (k0_h1 : k0_cond1 i = 1#1), ∀ a, (k0_off1 v9) a + S1x1024.size a ≤ S100000x1024.size a := fun i v9 k0_hw1 k0_h1 => k0_hw1.1 k0_h1
theorem k0_off2_inb : ∀ (i : grid0.Coords) (v9 : BitVec 32) (k0_hw1 : k0_chk1 i v9), ∀ (k0_h1 : k0_cond1 i = 1#1), ∀ a, (k0_off2 v9) a + S128.size a ≤ S100096.size a := fun i v9 k0_hw1 k0_h1 => k0_hw1.2.1 k0_h1
theorem k0_off3_inb : ∀ (i : grid0.Coords) (v9 : BitVec 32) (k0_hw1 : k0_chk1 i v9), ∀ (k0_h1 : k0_cond1 i = 1#1), ∀ a, (k0_off3 v9) a + S1.size a ≤ S128.size a := fun i v9 k0_hw1 k0_h1 => k0_hw1.2.2 k0_h1

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S_ : Shape := ⟨0, ![]⟩
abbrev S4x4096x1024 : Shape := ⟨3, ![4, 4096, 1024]⟩
abbrev S100000x1024 : Shape := ⟨2, ![100000, 1024]⟩
abbrev S100000 : Shape := ⟨1, ![100000]⟩
abbrev S1 : Shape := ⟨1, ![1]⟩
abbrev S1024 : Shape := ⟨1, ![1024]⟩
abbrev S1x1x1024 : Shape := ⟨3, ![1, 1, 1024]⟩

abbrev nBuf : Space → Nat
  | .hbm => 86
  | .vmem => 0
  | .smem => 0
  | _ => 0

abbrev bufTy : (tb : Table) → Fin (tcTables nBuf tb) → BufTy
  | .hbm, ⟨0, _⟩ => ⟨S_, .i32⟩
  | .hbm, ⟨1, _⟩ => ⟨S4x4096x1024, .f32⟩
  | .hbm, ⟨2, _⟩ => ⟨S100000x1024, .f32⟩
  | .hbm, ⟨3, _⟩ => ⟨S100000x1024, .f32⟩
  | .hbm, ⟨4, _⟩ => ⟨S100000, .f32⟩
  | .hbm, ⟨5, _⟩ => ⟨S100000, .f32⟩
  | .hbm, ⟨6, _⟩ => ⟨S_, .i32⟩
  | .hbm, ⟨7, _⟩ => ⟨S_, .i1⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S1, .i32⟩
  | .hbm, ⟨12, _⟩ => ⟨S1, .i32⟩
  | .hbm, ⟨13, _⟩ => ⟨S_, .i32⟩
  | .hbm, ⟨14, _⟩ => ⟨S1, .i32⟩
  | .hbm, ⟨15, _⟩ => ⟨S1, .i1⟩
  | .hbm, ⟨16, _⟩ => ⟨S1, .i1⟩
  | .hbm, ⟨17, _⟩ => ⟨S1, .i1⟩
  | .hbm, ⟨18, _⟩ => ⟨S_, .i1⟩
  | .hbm, ⟨19, _⟩ => ⟨S_, .i1⟩
  | .hbm, ⟨20, _⟩ => ⟨S1024, .f32⟩
  | .hbm, ⟨21, _⟩ => ⟨S1024, .i1⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S1, .i32⟩
  | .hbm, ⟨31, _⟩ => ⟨S1, .i32⟩
  | .hbm, ⟨32, _⟩ => ⟨S_, .i32⟩
  | .hbm, ⟨33, _⟩ => ⟨S1, .i32⟩
  | .hbm, ⟨34, _⟩ => ⟨S1, .i1⟩
  | .hbm, ⟨35, _⟩ => ⟨S1, .i1⟩
  | .hbm, ⟨36, _⟩ => ⟨S1, .i1⟩
  | .hbm, ⟨37, _⟩ => ⟨S_, .i1⟩
  | .hbm, ⟨38, _⟩ => ⟨S_, .i1⟩
  | .hbm, ⟨39, _⟩ => ⟨S1024, .f32⟩
  | .hbm, ⟨40, _⟩ => ⟨S1024, .i1⟩
  | .hbm, ⟨41, _⟩ => ⟨S_, .f32⟩
  | .hbm, ⟨42, _⟩ => ⟨S1024, .f32⟩
  | .hbm, ⟨43, _⟩ => ⟨S1024, .f32⟩
  | .hbm, ⟨44, _⟩ => ⟨S_, .i32⟩
  | .hbm, ⟨45, _⟩ => ⟨S_, .i1⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S1, .i32⟩
  | .hbm, ⟨50, _⟩ => ⟨S1, .i32⟩
  | .hbm, ⟨51, _⟩ => ⟨S_, .i32⟩
  | .hbm, ⟨52, _⟩ => ⟨S1, .i32⟩
  | .hbm, ⟨53, _⟩ => ⟨S1, .i1⟩
  | .hbm, ⟨54, _⟩ => ⟨S1, .i1⟩
  | .hbm, ⟨55, _⟩ => ⟨S1, .i1⟩
  | .hbm, ⟨56, _⟩ => ⟨S_, .i1⟩
  | .hbm, ⟨57, _⟩ => ⟨S_, .i1⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .i32⟩
  | .hbm, ⟨62, _⟩ => ⟨S_, .i1⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S1, .i32⟩
  | .hbm, ⟨67, _⟩ => ⟨S1, .i32⟩
  | .hbm, ⟨68, _⟩ => ⟨S_, .i32⟩
  | .hbm, ⟨69, _⟩ => ⟨S1, .i32⟩
  | .hbm, ⟨70, _⟩ => ⟨S1, .i1⟩
  | .hbm, ⟨71, _⟩ => ⟨S1, .i1⟩
  | .hbm, ⟨72, _⟩ => ⟨S1, .i1⟩
  | .hbm, ⟨73, _⟩ => ⟨S_, .i1⟩
  | .hbm, ⟨74, _⟩ => ⟨S_, .i1⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S1024, .f32⟩
  | .hbm, ⟨79, _⟩ => ⟨S1024, .f32⟩
  | .hbm, ⟨80, _⟩ => ⟨S1024, .f32⟩
  | .hbm, ⟨81, _⟩ => ⟨S1024, .f32⟩
  | .hbm, ⟨82, _⟩ => ⟨S1024, .f32⟩
  | .hbm, ⟨83, _⟩ => ⟨S1x1x1024, .f32⟩
  | .hbm, ⟨84, _⟩ => ⟨S4x4096x1024, .f32⟩
  | .hbm, ⟨85, _⟩ => ⟨S4x4096x1024, .f32⟩
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_c_0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_c_1 : Ref sig .tc := ⟨.hbm, 12, rfl⟩
abbrev main_call0_c_2 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_c_3 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_cst : Ref sig .tc := ⟨.hbm, 22, rfl⟩
abbrev main_call0_v11 : Ref sig .tc := ⟨.hbm, 23, rfl⟩
abbrev main_v0 : Ref sig .tc := ⟨.hbm, 24, rfl⟩
abbrev main_call1_c : Ref sig .tc := ⟨.hbm, 25, rfl⟩
abbrev main_call1_v0 : Ref sig .tc := ⟨.hbm, 26, rfl⟩
abbrev main_call1_c_0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_c_1 : Ref sig .tc := ⟨.hbm, 31, rfl⟩
abbrev main_call1_c_2 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_c_3 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_cst : Ref sig .tc := ⟨.hbm, 41, rfl⟩
abbrev main_call1_v11 : Ref sig .tc := ⟨.hbm, 42, rfl⟩
abbrev main_v1 : Ref sig .tc := ⟨.hbm, 43, rfl⟩
abbrev main_call2_c : Ref sig .tc := ⟨.hbm, 44, rfl⟩
abbrev main_call2_v0 : Ref sig .tc := ⟨.hbm, 45, rfl⟩
abbrev main_call2_c_0 : Ref sig .tc := ⟨.hbm, 46, rfl⟩
abbrev main_call2_v1 : Ref sig .tc := ⟨.hbm, 47, rfl⟩
abbrev main_call2_v2 : Ref sig .tc := ⟨.hbm, 48, rfl⟩
abbrev main_call2_v3 : Ref sig .tc := ⟨.hbm, 49, rfl⟩
abbrev main_call2_c_1 : Ref sig .tc := ⟨.hbm, 50, rfl⟩
abbrev main_call2_c_2 : Ref sig .tc := ⟨.hbm, 51, rfl⟩
abbrev main_call2_v4 : Ref sig .tc := ⟨.hbm, 52, rfl⟩
abbrev main_call2_v5 : Ref sig .tc := ⟨.hbm, 53, rfl⟩
abbrev main_call2_v6 : Ref sig .tc := ⟨.hbm, 54, rfl⟩
abbrev main_call2_v7 : Ref sig .tc := ⟨.hbm, 55, rfl⟩
abbrev main_call2_c_3 : Ref sig .tc := ⟨.hbm, 56, rfl⟩
abbrev main_call2_v8 : Ref sig .tc := ⟨.hbm, 57, rfl⟩
abbrev main_call2_v9 : Ref sig .tc := ⟨.hbm, 58, rfl⟩
abbrev main_call2_cst : Ref sig .tc := ⟨.hbm, 59, rfl⟩
abbrev main_v2 : Ref sig .tc := ⟨.hbm, 60, rfl⟩
abbrev main_call3_c : Ref sig .tc := ⟨.hbm, 61, rfl⟩
abbrev main_call3_v0 : Ref sig .tc := ⟨.hbm, 62, rfl⟩
abbrev main_call3_c_0 : Ref sig .tc := ⟨.hbm, 63, rfl⟩
abbrev main_call3_v1 : Ref sig .tc := ⟨.hbm, 64, rfl⟩
abbrev main_call3_v2 : Ref sig .tc := ⟨.hbm, 65, rfl⟩
abbrev main_call3_v3 : Ref sig .tc := ⟨.hbm, 66, rfl⟩
abbrev main_call3_c_1 : Ref sig .tc := ⟨.hbm, 67, rfl⟩
abbrev main_call3_c_2 : Ref sig .tc := ⟨.hbm, 68, rfl⟩
abbrev main_call3_v4 : Ref sig .tc := ⟨.hbm, 69, rfl⟩
abbrev main_call3_v5 : Ref sig .tc := ⟨.hbm, 70, rfl⟩
abbrev main_call3_v6 : Ref sig .tc := ⟨.hbm, 71, rfl⟩
abbrev main_call3_v7 : Ref sig .tc := ⟨.hbm, 72, rfl⟩
abbrev main_call3_c_3 : Ref sig .tc := ⟨.hbm, 73, rfl⟩
abbrev main_call3_v8 : Ref sig .tc := ⟨.hbm, 74, rfl⟩
abbrev main_call3_v9 : Ref sig .tc := ⟨.hbm, 75, rfl⟩
abbrev main_call3_cst : Ref sig .tc := ⟨.hbm, 76, rfl⟩
abbrev main_v3 : Ref sig .tc := ⟨.hbm, 77, rfl⟩
abbrev main_v4 : Ref sig .tc := ⟨.hbm, 78, rfl⟩
abbrev main_v5 : Ref sig .tc := ⟨.hbm, 79, rfl⟩
abbrev main_v6 : Ref sig .tc := ⟨.hbm, 80, rfl⟩
abbrev main_v7 : Ref sig .tc := ⟨.hbm, 81, rfl⟩
abbrev main_v8 : Ref sig .tc := ⟨.hbm, 82, rfl⟩
abbrev main_v9 : Ref sig .tc := ⟨.hbm, 83, rfl⟩
abbrev main_v10 : Ref sig .tc := ⟨.hbm, 84, rfl⟩
abbrev main_v11 : Ref sig .tc := ⟨.hbm, 85, rfl⟩

abbrev nD : Nat := 1
abbrev τ : Topo := Topo.v7x

variable {F : FTy → Type} [FloatOps F]
-- ==== Proof.Word.lean ====
/- The row's number as a word: where the kernel's slices begin when the number names a row. -/
module

public import proofs.«01_k».proof.Proof.Gen.KernelIdeal
public import Idealize.ShloMosaic.Lib.Routing.Words
public import Idealize.ShloMosaic.Lib.WordCmp
public import Idealize.ShloMosaic.Lib.WordArith

@[expose] public section

namespace Cert.Edit

open Idealize.ShloMosaic Cert.KernelIdeal

/-- The start of the aligned run of 128 coefficients that holds coefficient `n`. -/
theorem start_of_ofNat (n : Nat) (h : n < 100000) : k0_off2 (BitVec.ofNat 32 n) = ![n / 128 * 128] := by
  have hd : Scalar.divsi (BitVec.ofNat 32 n) 128#32 = BitVec.ofNat 32 (n / 128) :=
    Routing.divsi_word .scalar (by omega) (by decide) (by decide)
  rcases Nat.eq_zero_or_pos n with rfl | hpos
  · decide
  have hg : Scalar.cmpi .sgt (BitVec.ofNat 32 n) 0#32 = 1#1 := by
    simp only [Scalar.cmpi]; word_cmp
  have hl : Scalar.cmpi .slt (BitVec.ofNat 32 n) 0#32 = 0#1 := by
    simp only [Scalar.cmpi]; word_cmp
  have hs : ∀ b : BitVec 1, Scalar.andi (Scalar.cmpi .ne (Scalar.subi (Scalar.extui (1#1) : BitVec 32) (Scalar.extui (0#1)))
      (Scalar.subi (Scalar.extui (Scalar.cmpi .sgt (128#32 : BitVec 32) 0#32)) (Scalar.extui (Scalar.cmpi .slt (128#32 : BitVec 32) 0#32)))) b = 0#1 := by
    decide
  unfold k0_off2
  simp only [hd, hg, hl, hs]
  funext a
  obtain rfl : a = 0 := Subsingleton.elim _ _
  show (Scalar.select (0#1) _ (BitVec.ofNat 32 (n / 128)) * 128#32).toNat = n / 128 * 128
  have : Scalar.select (0#1) (Scalar.subi (BitVec.ofNat 32 (n / 128)) 1#32) (BitVec.ofNat 32 (n / 128)) = BitVec.ofNat 32 (n / 128) := rfl
  rw [this, BitVec.toNat_mul, BitVec.toNat_ofNat, BitVec.toNat_ofNat]
  omega

/-- The place of coefficient `n` in that run. -/
theorem place_of_ofNat (n : Nat) (h : n < 100000) : k0_off3 (BitVec.ofNat 32 n) = ![n % 128] := by
  have hr : Scalar.remsi (BitVec.ofNat 32 n) 128#32 = BitVec.ofNat 32 (n % 128) :=
    Routing.remsi_word .scalar (by omega) (by decide) (by decide)
  have hs : Scalar.select (Scalar.cmpi .eq (128#32 : BitVec 32) 0#32) (1#32 : BitVec 32) 128#32 = 128#32 := by decide
  have hl : Scalar.cmpi .slt (BitVec.ofNat 32 (n % 128)) 0#32 = 0#1 := by
    simp only [Scalar.cmpi]; word_cmp
  have ha : ∀ b : BitVec 1, Scalar.andi (Scalar.xori (0#1) (Scalar.cmpi .slt (128#32 : BitVec 32) 0#32)) b = 0#1 := by decide
  unfold k0_off3
  simp only [hr, hs, hl, ha]
  funext a
  obtain rfl : a = 0 := Subsingleton.elim _ _
  have : Scalar.select (0#1) (Scalar.addi (BitVec.ofNat 32 (n % 128)) 128#32) (BitVec.ofNat 32 (n % 128)) = BitVec.ofNat 32 (n % 128) := rfl
  rw [this]
  show (BitVec.ofNat 32 (n % 128)).toNat = n % 128
  rw [BitVec.toNat_ofNat]
  omega

variable {w : BitVec 32} (h : w.toNat < 100000)
include h

theorem start_eq : k0_off2 w = ![w.toNat / 128 * 128] := by
  have := start_of_ofNat w.toNat h
  rwa [BitVec.ofNat_toNat, BitVec.setWidth_eq] at this

theorem place_eq : k0_off3 w = ![w.toNat % 128] := by
  have := place_of_ofNat w.toNat h
  rwa [BitVec.ofNat_toNat, BitVec.setWidth_eq] at this

/-- A number that names a row keeps every slice of the body inside its array. -/
theorem inside (i : grid0.Coords) : k0_chk1 i w := by
  refine ⟨fun _ a => ?_, fun _ a => ?_, fun _ a => ?_⟩
  · match a with
    | 0 => show w.toNat + 1 ≤ 100000; omega
    | 1 => show 0 + 1024 ≤ 1024; omega
  · rw [start_eq h]
    match a with
    | 0 => show w.toNat / 128 * 128 + 128 ≤ 100096; omega
  · rw [place_eq h]
    match a with
    | 0 => show w.toNat % 128 + 1 ≤ 128; omega

end Cert.Edit
-- ==== Proof.Body.lean ====
/- The kernel's body at one grid point, as two triples: the first point, which fetches the edited row and its
   two coefficients and leaves the edit vector in the carried scratch, and any later point, which finds it there. -/
module

public import proofs.«01_k».proof.Proof.Gen.KernelIdeal.Launch
public import proofs.«01_k».proof.Proof.Gen.KernelIdeal.Skeleton
public import proofs.«01_k».proof.Proof.Word
public import Idealize.ShloMosaic.Lib.Pipeline.FrameBody
public import Idealize.ShloMosaic.Lib.Ring
public import Idealize.ShloMosaic.Lib.Tactic
public import Idealize.ShloMosaic.Lib.VecWindow
public import Idealize.ShloMosaic.Lib.ValueIdx

@[expose] public section

set_option maxRecDepth 16384

noncomputable section

namespace Cert.Edit

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (Pipeline.UD sig nD τ) ℕ

/-- The one-word table of the edited row's number, as the body is handed it. -/
abbrev tabM : Memref sig .tc .smem S1 .i32 := Memref.whole main_v1
/-- The four operands left in far memory. -/
abbrev newM : Memref sig .tc .hbm S100000x1024 .f32 := Memref.whole main_arg2
abbrev oldM : Memref sig .tc .hbm S100000x1024 .f32 := Memref.whole main_arg3
abbrev alphaM : Memref sig .tc .hbm S100096 .f32 := Memref.whole main_v2
abbrev betaM : Memref sig .tc .hbm S100096 .f32 := Memref.whole main_v3

/-- What the buffer behind a memref may hold on core `c`. -/
abbrev Held (c : Dev nD) {sp : Space} {S : Shape} {e : EltTy} (M : Memref sig .tc sp S e) : Type :=
  Buf (Elt F) (M.view.loc (c : Thread nD τ))
/-- A memref's buffer held whole. -/
abbrev held (c : Dev nD) {sp : Space} {S : Shape} {e : EltTy} (M : Memref sig .tc sp S e) (f : Held (F := F) c M) :
    sProp 𝕄 := M.view.loc (c : Thread nD τ) ↦{fullShare} f
/-- The table's buffer held at the half share the body is lent. -/
abbrev lent (c : Dev nD) {sp : Space} {S : Shape} {e : EltTy} (M : Memref sig .tc sp S e) (f : Held (F := F) c M) :
    sProp 𝕄 := M.view.loc (c : Thread nD τ) ↦{fullShare.right} f

/-- The row's number, as the body loads it from its table. -/
abbrev word {c : Dev nD} (xt : Held (F := F) c tabM) : BitVec 32 :=
  tabM.view.readAt (Elt F) (Rect.unit (s := S1) ![0] S1.size inb_S1_S1_0).toLoadRect xt
    (Shape.Idx.first (numel1_S1.symm ▸ Nat.one_pos))

/-- The edit vector: the new row at its coefficient and the old row at its own. -/
def edit (w : BitVec 32) (h : w.toNat < 100000) (fn fo : Vec F S100000x1024 .f32) (fa fb : Vec F S100096 .f32) :
    Vec F S1x1024 .f32 :=
  k0_pay1 (fa (ValueIdx.ix1 ⟨w.toNat, by omega⟩)) (fun j => fn (ValueIdx.ix2 ⟨w.toNat, h⟩ (j 1)))
    (fb (ValueIdx.ix1 ⟨w.toNat, by omega⟩)) (fun j => fo (ValueIdx.ix2 ⟨w.toNat, h⟩ (j 1)))

/-- A load from a buffer a transfer filled whole reads the transfer's contents under the load's box. -/
theorem load_filled [∀ e, Nonempty (Elt F e)] {sp : Space} {s : Shape} {e : EltTy} (v : View sig .tc sp s e) (x : s.Idx → Elt F e) (B : LoadRect s)
    (j : B.shape.Idx) : v.readCov [⟨Rect.whole s, x⟩] B j = x (B.idx j) := by
  rw [View.readCov_eq_canon']
  have h := View.canon_cons_emb (Val := Elt F) (Rect.whole s) x [] (B.idx j)
  rw [Rect.emb_whole_apply] at h
  exact h

/-- The row a transfer brings: the slice begins at row `w`. -/
theorem row_at {w : BitVec 32} (h : w.toNat < 100000) (f : Vec F S100000x1024 .f32)
    (hi : ∀ a, k0_off1 w a + S1x1024.size a ≤ S100000x1024.size a) (j : S1x1024.Idx) :
    f ((Rect.unit (s := S100000x1024) (k0_off1 w) S1x1024.size hi).emb j) = f (ValueIdx.ix2 ⟨w.toNat, h⟩ (j 1)) := by
  refine congrArg f (funext fun a => Fin.ext ?_)
  match a with
  | 0 =>
    have : (j 0).val < 1 := (j 0).isLt
    show w.toNat + 1 * (j 0).val = w.toNat
    omega
  | 1 => show 0 + 1 * (j 1).val = (j 1).val; omega

/-- The coefficient a load finds in the run a transfer brings: the run begins at the multiple of 128 below `w`, and
    the load reads place `w` modulo 128 of it. -/
theorem coef_at {w : BitVec 32} (h : w.toNat < 100000) (f : Vec F S100096 .f32)
    (hi : ∀ a, k0_off2 w a + S128.size a ≤ S100096.size a) (hj : ∀ a, k0_off3 w a + S1.size a ≤ S128.size a) (j : S1.Idx) :
    f ((Rect.unit (s := S100096) (k0_off2 w) S128.size hi).emb ((Rect.unit (s := S128) (k0_off3 w) S1.size hj).emb j))
      = f (ValueIdx.ix1 ⟨w.toNat, by omega⟩) := by
  refine congrArg f (funext fun a => Fin.ext ?_)
  match a with
  | 0 =>
    have : (j 0).val < 1 := (j 0).isLt
    show k0_off2 w 0 + 1 * (k0_off3 w 0 + 1 * (j 0).val) = w.toNat
    rw [start_eq h, place_eq h]
    show w.toNat / 128 * 128 + 1 * (w.toNat % 128 + 1 * (j 0).val) = w.toNat
    omega

set_option maxHeartbeats 1000000 in
/-- The first point: the edited rows and their coefficients are fetched, the edit vector is left in the carried
    scratch, and the block is stored with the edit added to each of its rows. -/
theorem first_point (c : Dev nD) (i : grid0.Coords)
    (arg6 : Memref sig .tc .vmem S2048x1024 .f32) (harg6 : arg6.IsWhole)
    (arg7 : Memref sig .tc .vmem S2048x1024 .f32) (harg7 : arg7.IsWhole)
    (arg8 : Memref sig .tc .vmem S1x1024 .f32) (harg8 : arg8.IsWhole)
    (arg9 : Memref sig .tc .vmem S1x1024 .f32) (harg9 : arg9.IsWhole)
    (arg10 : Memref sig .tc .smem S128 .f32) (harg10 : arg10.IsWhole)
    (arg11 : Memref sig .tc .smem S128 .f32) (harg11 : arg11.IsWhole)
    (arg12 : Memref sig .tc .vmem S1x1024 .f32) (harg12 : arg12.IsWhole)
    (hc : k0_cond1 i = 1#1) (x : Vec F S2048x1024 .f32) (xt : Held (F := F) c tabM)
    (fn : Held (F := F) c newM) (fo : Held (F := F) c oldM) (fa : Held (F := F) c alphaM) (fb : Held (F := F) c betaM)
    (h : (word xt).toNat < 100000)
    (W : Waits sig Unit) (K : PUnit → sProp 𝕄) :
    iprop(owns (c : Thread nD τ) arg6 fullShare x ∗ (∃ d, owns (c : Thread nD τ) arg7 fullShare d)
        ∗ (∃ d, owns (c : Thread nD τ) arg8 fullShare d) ∗ (∃ d, owns (c : Thread nD τ) arg9 fullShare d)
        ∗ (∃ d, owns (c : Thread nD τ) arg10 fullShare d) ∗ (∃ d, owns (c : Thread nD τ) arg11 fullShare d)
        ∗ (∃ d, owns (c : Thread nD τ) arg12 fullShare d)
        ∗ lent c tabM xt
        ∗ semVal ((c : Thread nD τ), SemLoc.dma 4) 0 ∗ semVal ((c : Thread nD τ), SemLoc.dma 5) 0
        ∗ semVal ((c : Thread nD τ), SemLoc.dma 6) 0 ∗ semVal ((c : Thread nD τ), SemLoc.dma 7) 0
        ∗ held c newM fn ∗ held c oldM fo ∗ held c alphaM fa ∗ held c betaM fb
        ∗ owes (c : Thread nD τ) 0 W
        ∗ (iprop(owns (c : Thread nD τ) arg6 fullShare x ∗ owns (c : Thread nD τ) arg7 fullShare (k0_pay2 x (edit (word xt) h fn fo fa fb))
            ∗ (∃ d, owns (c : Thread nD τ) arg8 fullShare d) ∗ (∃ d, owns (c : Thread nD τ) arg9 fullShare d)
            ∗ (∃ d, owns (c : Thread nD τ) arg10 fullShare d) ∗ (∃ d, owns (c : Thread nD τ) arg11 fullShare d)
            ∗ owns (c : Thread nD τ) arg12 fullShare (edit (word xt) h fn fo fa fb)
            ∗ lent c tabM xt
            ∗ semVal ((c : Thread nD τ), SemLoc.dma 4) 0 ∗ semVal ((c : Thread nD τ), SemLoc.dma 5) 0
            ∗ semVal ((c : Thread nD τ), SemLoc.dma 6) 0 ∗ semVal ((c : Thread nD τ), SemLoc.dma 7) 0
            ∗ held c newM fn ∗ held c oldM fo ∗ held c alphaM fa ∗ held c betaM fb
            ∗ (∃ W', owes (c : Thread nD τ) 0 W')) -∗ K ⟨⟩))
      ⊢ wp frame (wpE (defs₀ (F := F)) Variants.none c none) Set.univ
          (cc0__body i tabM (Memref.isWhole_whole _) newM (Memref.isWhole_whole _) oldM (Memref.isWhole_whole _)
            alphaM (Memref.isWhole_whole _) betaM (Memref.isWhole_whole _) arg6 harg6 arg7 harg7 arg8 harg8
            arg9 harg9 arg10 harg10 arg11 harg11 arg12 harg12 cc0_scratch5) K := by
  have hw : k0_chk1 i (word xt) := inside h i
  simp only [cc0__body_eq_skeleton]; unfold cc0__body_skel
  simp only [k0_part1_eq_skeleton]
  unfold owns
  iintro ⟨⟨%f6, %h6, H6⟩, ⟨%d7, %f7, -, H7⟩, ⟨%d8, %f8, -, H8⟩, ⟨%d9, %f9, -, H9⟩, ⟨%d10, %f10, -, H10⟩,
    ⟨%d11, %f11, -, H11⟩, ⟨%d12, %f12, -, H12⟩, Ht, Hq0, Hq1, Hq2, Hq3, Hn, Ho, Ha, Hb, HW, Hk⟩
  obtain rfl := harg6.eq_unread h6
  sl_exec (disch := first | sl_exact hc | sl_exact hw)
  sl_step
  iapply Hk
  have ej : ∀ j : S1x1024.Idx, (Rect.unit (s := S1x1024) ![0, 0] S1x1024.size inb_S1x1024_S1x1024_0_0).emb j = j :=
    fun j => Rect.emb_unit_full (s := S1x1024) (off := ![0, 0]) inb_S1x1024_S1x1024_0_0 j
  have e8 : first_point.sl.v64 c i arg8 hc xt fn hw = fun j => fn (ValueIdx.ix2 ⟨(word xt).toNat, h⟩ (j 1)) := by
    funext j
    refine (load_filled arg8.view _ _ j).trans ?_
    refine Eq.trans ?_ (row_at h fn (k0_off1_inb i _ hw hc) j)
    exact congrArg (fun y => fn ((Rect.unit (s := S100000x1024) (k0_off1 (word xt)) S1x1024.size (k0_off1_inb i _ hw hc)).emb y)) (ej j)
  have e9 : first_point.sl.v69 c i arg9 hc xt fo hw = fun j => fo (ValueIdx.ix2 ⟨(word xt).toNat, h⟩ (j 1)) := by
    funext j
    refine (load_filled arg9.view _ _ j).trans ?_
    refine Eq.trans ?_ (row_at h fo (k0_off1_inb i _ hw hc) j)
    exact congrArg (fun y => fo ((Rect.unit (s := S100000x1024) (k0_off1 (word xt)) S1x1024.size (k0_off1_inb i _ hw hc)).emb y)) (ej j)
  have e10 : first_point.sl.r_1 c i arg10 hc xt fa hw = fa (ValueIdx.ix1 ⟨(word xt).toNat, by omega⟩) :=
    (load_filled arg10.view _ _ _).trans (coef_at h fa (k0_off2_inb i _ hw hc) (k0_off3_inb i _ hw hc) _)
  have e11 : first_point.sl.r_2 c i arg11 hc xt fb hw = fb (ValueIdx.ix1 ⟨(word xt).toNat, by omega⟩) :=
    (load_filled arg11.view _ _ _).trans (coef_at h fb (k0_off2_inb i _ hw hc) (k0_off3_inb i _ hw hc) _)
  have e12 : first_point.sl.H12_1 c i arg8 arg9 arg10 arg11 hc xt fn fo fa fb hw
      = [⟨Rect.unit (s := S1x1024) ![0, 0] S1x1024.size inb_S1x1024_S1x1024_0_0, edit (word xt) h fn fo fa fb⟩] := by
    unfold first_point.sl.H12_1 edit
    rw [e8, e9, e10, e11]
    rfl
  have ev : first_point.sl.v5 c i arg8 arg9 arg10 arg11 arg12 hc xt fn fo fa fb hw = edit (word xt) h fn fo fa fb := by
    unfold first_point.sl.v5
    rw [e12]
    exact View.readCov_full arg12.view _ _ _ _
  rw [e12, ev]
  isplitl [H6]
  · iexists _; isplitr; · ipureintro; exact h6
    iexact H6
  isplitl [H7]
  · iexists _; isplitr; swap; · iexact H7
    ipureintro
    refine (View.read_writes_full arg7.view _ _ _ _).trans ?_
    exact congrArg (fun y => k0_pay2 y _) ((View.readAt_full arg6.view _ _).trans h6)
  isplitl [H8]; · iexists _, _; isplitr; swap; · iexact H8
                  ipureintro; rfl
  isplitl [H9]; · iexists _, _; isplitr; swap; · iexact H9
                  ipureintro; rfl
  isplitl [H10]; · iexists _, _; isplitr; swap; · iexact H10
                   ipureintro; rfl
  isplitl [H11]; · iexists _, _; isplitr; swap; · iexact H11
                   ipureintro; rfl
  isplitl [H12]
  · iexists _; isplitr; swap; · iexact H12
    ipureintro
    exact View.read_writes_full arg12.view _ _ _ _
  isplitl [Ht]; · iexact Ht
  isplitl [Hq0]; · iexact Hq0
  isplitl [Hq1]; · iexact Hq1
  isplitl [Hq2]; · iexact Hq2
  isplitl [Hq3]; · iexact Hq3
  isplitl [Hn]; · iexact Hn
  isplitl [Ho]; · iexact Ho
  isplitl [Ha]; · iexact Ha
  isplitl [Hb]; · iexact Hb
  iexists _; iexact HW

set_option maxHeartbeats 1000000 in
/-- A later point: the carried scratch holds the edit, and the block is stored with it added to each of its rows. -/
theorem later_point (c : Dev nD) (i : grid0.Coords)
    (arg6 : Memref sig .tc .vmem S2048x1024 .f32) (harg6 : arg6.IsWhole)
    (arg7 : Memref sig .tc .vmem S2048x1024 .f32) (harg7 : arg7.IsWhole)
    (arg8 : Memref sig .tc .vmem S1x1024 .f32) (harg8 : arg8.IsWhole)
    (arg9 : Memref sig .tc .vmem S1x1024 .f32) (harg9 : arg9.IsWhole)
    (arg10 : Memref sig .tc .smem S128 .f32) (harg10 : arg10.IsWhole)
    (arg11 : Memref sig .tc .smem S128 .f32) (harg11 : arg11.IsWhole)
    (arg12 : Memref sig .tc .vmem S1x1024 .f32) (harg12 : arg12.IsWhole)
    (hc : ¬ k0_cond1 i = 1#1) (x : Vec F S2048x1024 .f32) (e : Vec F S1x1024 .f32) (K : PUnit → sProp 𝕄) :
    iprop(owns (c : Thread nD τ) arg6 fullShare x ∗ (∃ d, owns (c : Thread nD τ) arg7 fullShare d)
        ∗ owns (c : Thread nD τ) arg12 fullShare e
        ∗ (iprop(owns (c : Thread nD τ) arg6 fullShare x ∗ owns (c : Thread nD τ) arg7 fullShare (k0_pay2 x e)
            ∗ owns (c : Thread nD τ) arg12 fullShare e) -∗ K ⟨⟩))
      ⊢ wp frame (wpE (defs₀ (F := F)) Variants.none c none) Set.univ
          (cc0__body i tabM (Memref.isWhole_whole _) newM (Memref.isWhole_whole _) oldM (Memref.isWhole_whole _)
            alphaM (Memref.isWhole_whole _) betaM (Memref.isWhole_whole _) arg6 harg6 arg7 harg7 arg8 harg8
            arg9 harg9 arg10 harg10 arg11 harg11 arg12 harg12 cc0_scratch5) K := by
  simp only [cc0__body_eq_skeleton]; unfold cc0__body_skel
  unfold owns
  iintro ⟨⟨%f6, %h6, H6⟩, ⟨%d7, %f7, -, H7⟩, ⟨%f12, %h12, H12⟩, Hk⟩
  sl_exec (disch := first | sl_exact hc)
  sl_step
  iapply Hk
  isplitl [H6]
  · iexists _; isplitr; swap; · iexact H6
    ipureintro; exact h6
  isplitl [H7]
  · iexists _; isplitr; swap; · iexact H7
    ipureintro
    refine (View.read_writes_full arg7.view _ _ _ _).trans ?_
    exact congrArg₂ k0_pay2 ((View.readAt_full arg6.view _ _).trans h6) ((View.readAt_full arg12.view _ _).trans h12)
  iexists _; isplitr; swap; · iexact H12
  ipureintro; exact h12

end Cert.Edit

end
-- ==== Proof.Entry.lean ====
/- What the kernel finds when its region is entered: the host lines before it, the table's word, the arrays and
   the far-memory operands, and the pieces of the launch's invariant listed one by one. -/
module

public import proofs.«01_k».proof.Proof.Body
public import Idealize.ShloMosaic.Lib.Pipeline.FrameSuffix

@[expose] public section

set_option maxRecDepth 16384

noncomputable section

namespace Cert.Edit

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ)

/-! ## The host lines around the region -/

/-- The host lines before the region. -/
abbrev before : List (List (HloOp τ sig (Elt F))) := [hostOps0, hostOps0_1, hostOps0_2, hostOps0_3]

/-- Every buffer of core `c` when the region is entered. -/
abbrev entry (c : Dev nD) : Valuation τ sig (Elt F) := StableHlo.after before.flatten fun b => m (c, b)

theorem before_sub : (before (F := F)).Forall fun ops => ops.Forall fun op => op.bufs ⊆ StableHlo.tcRefs τ sig := by
  simp only [before, List.Forall]; exact ⟨hostOps0_sub, hostOps0_1_sub, hostOps0_2_sub, hostOps0_3_sub⟩

theorem before_fresh : (before (F := F)).Forall fun ops => ops.Forall fun op => op.fresh = ∅ := by
  simp only [before, List.Forall]; repeat' constructor

set_option maxHeartbeats 800000 in
/-- The program is the lines before, the region, and the closing reshape. -/
theorem main_around : Pipeline.HMainPK (Ix := Unit) (Name := ℕ) (U := Pipeline.UD sig nD τ) (Lvl := ℕ) pcfgs 0 defs₀
    Variants.none m (main (F := F)) (fun c b => entry m c b) (fun _ => Pipeline.chain ([hostOps1].map StableHlo.seq)) :=
  Pipeline.hmainP_around pcfgs 0 defs₀ Variants.none m main before [hostOps1] before_sub before_fresh main_chain

/-- A buffer no line before the region writes is found as launched. -/
theorem entry_kept (c : Dev nD) (b : Ref sig .tc) (h0 : b ≠ main_v0) (h1 : b ≠ main_v1) (h2 : b ≠ main_c)
    (h3 : b ≠ main_call0_v0) (h4 : b ≠ main_v2) (h5 : b ≠ main_c_0) (h6 : b ≠ main_call1_v0) (h7 : b ≠ main_v3) :
    entry m c b = m ((c : Thread nD τ).loc b) :=
  StableHlo.after_of_forall_not_mem (b := Proc.devRef .tc b) _ _ (List.forall_iff_forall_mem.mp (by
    simp only [before, hostOps0, hostOps0_1, hostOps0_2, hostOps0_3, List.flatten_cons, List.flatten_nil, List.append_nil,
      List.cons_append, List.nil_append, List.Forall, StableHlo.nullary_writes, StableHlo.unary_writes,
      StableHlo.binary_writes, StableHlo.reshape_writes, Finset.mem_singleton]
    exact ⟨StableHlo.devRef_ne_of_ne h0, StableHlo.devRef_ne_of_ne h1, StableHlo.devRef_ne_of_ne h2,
      StableHlo.devRef_ne_of_ne h3, StableHlo.devRef_ne_of_ne h4, StableHlo.devRef_ne_of_ne h5,
      StableHlo.devRef_ne_of_ne h6, StableHlo.devRef_ne_of_ne h7⟩))

/-! ## The table -/

/-- The table's contents (there is one device). -/
def table : pre0.Contents (Elt F) := fun j => entry m (0 : Dev nD) (pre0.ref j)

theorem entry_table (c : Dev nD) (j : Fin 1) : entry m c (pre0.ref j) = table m j := by
  obtain rfl : c = 0 := Subsingleton.elim _ _; rfl

/-- The table's contents admitted: no window's blocks depend on them. -/
abbrev adm : (pcfg0 (F := F)).Adm := ⟨table m, trivial⟩
/-- The pipeline at them. -/
abbrev pipe : Pipeline.Cfg sig Λ₀ := cfg0 (adm m)

/-- The edited row's number. -/
abbrev number : BitVec 32 := word (c := (0 : Dev nD)) (table m 0)

/-- The edit vector core `c` computes. -/
abbrev editOf (h : (number m).toNat < 100000) (c : Dev nD) : Vec F S1x1024 .f32 :=
  edit (number m) h (entry m c main_arg2) (entry m c main_arg3) (entry m c main_v2) (entry m c main_v3)

/-- The halves of the tables the region lends the body: the one table's. -/
theorem tables_eq (c : Dev nD) : (Pipeline.ΦT pre0 (table m) c : sProp 𝕄) = iprop(lent c tabM (table m 0)) := by
  unfold Pipeline.ΦT Pipeline.prefHeld
  rw [show (Finset.univ : Finset (Fin 1)) = {(0 : Fin 1)} from by decide, bigSep_singleton]
  rfl

/-! ## The body's own semaphores, scratch and far-memory operands -/

/-- The four semaphores the body's transfers complete on. -/
abbrev ownSem : Fin 4 → SemLoc sig := fun j => (![SemLoc.dma 4, SemLoc.dma 5, SemLoc.dma 6, SemLoc.dma 7] : Fin 4 → SemLoc sig) j

theorem ownSem_facts : Pipeline.OwnSemFacts spec0 ownSem := by decide

/-- The far-memory operands. -/
def far : Finset (Ref sig .tc) := {main_arg2, main_arg3, main_v2, main_v3}

theorem far_sub : far ⊆ Pipeline.restRefsP sig pre0 spec0 := by decide

/-- The four semaphores at zero. -/
abbrev quiet (c : Dev nD) : sProp 𝕄 :=
  iprop(semVal ((c : Thread nD τ), SemLoc.dma 4) 0 ∗ semVal ((c : Thread nD τ), SemLoc.dma 5) 0
    ∗ semVal ((c : Thread nD τ), SemLoc.dma 6) 0 ∗ semVal ((c : Thread nD τ), SemLoc.dma 7) 0)

/-- The far-memory operands at what the region finds in them. -/
abbrev farHeld (c : Dev nD) : sProp 𝕄 :=
  iprop(held c newM (entry m c main_arg2) ∗ held c oldM (entry m c main_arg3) ∗ held c alphaM (entry m c main_v2)
    ∗ held c betaM (entry m c main_v3))

/-- The scratch buffers, the carried one satisfying `E`. -/
abbrev scratch (c : Dev nD) (E : sProp 𝕄) : sProp 𝕄 :=
  iprop((∃ d, owns (c : Thread nD τ) (Memref.whole cc0_scratch0) fullShare d)
    ∗ (∃ d, owns (c : Thread nD τ) (Memref.whole cc0_scratch1) fullShare d) ∗ E
    ∗ (∃ d, owns (c : Thread nD τ) (Memref.whole cc0_scratch2) fullShare d)
    ∗ (∃ d, owns (c : Thread nD τ) (Memref.whole cc0_scratch3) fullShare d))

theorem quiet_eq (c : Dev nD) :
    (Pipeline.ownSems0 (Ix := Unit) (Name := ℕ) (U := Pipeline.UD sig nD τ) (Lvl := ℕ) (Val := Elt F) (τ := τ) ownSem c : sProp 𝕄)
      = quiet c := by
  rw [Pipeline.ownSems0_eq_of_list c ownSem [0, 1, 2, 3] (by decide) (by decide)]; rfl

theorem farHeld_eq (c : Dev nD) :
    (bigSep far (fun b => ((c : Thread nD τ).loc b) ↦{fullShare} entry m c b) : sProp 𝕄) = farHeld m c := by
  rw [BI.bigSep_eq_bigSepL_of_eq [main_arg2, main_arg3, main_v2, main_v3] (by decide) (by decide)]; rfl

/-- The launch's invariant of a body with transfers of its own, listed. -/
theorem invariant_eq (c : Dev nD) :
    (Pipeline.ΦD ownSem spec0 far (fun c b => entry m c b) c : sProp 𝕄)
      = iprop(scratch c iprop(∃ d, owns (c : Thread nD τ) (Memref.whole cc0_scratch4) fullShare d) ∗ (∃ r, prngReg c r)
          ∗ quiet c ∗ farHeld m c) := by
  rw [Pipeline.ΦD_eq, scopedRest0_eq, quiet_eq, farHeld_eq]; simp only [scratch, owns_whole]

end Cert.Edit

end
-- ==== Proof.Run.lean ====
/- The kernel's launch: the proof data of its pipeline with the contents of every block stated, the body at any
   point, and the run of the whole program from any memory whose edited row is a row. -/
module

public import proofs.«01_k».proof.Proof.Entry
public import Idealize.ShloMosaic.Lib.WordCmp

@[expose] public section

set_option maxRecDepth 16384

noncomputable section

namespace Cert.Edit

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The proof data -/

/-- A window's block at point `t`, read off its array as the region finds it. -/
def blockAt (c : Dev nD) (w : Fin (pipe m).W) (t : Fin (pipe m).N) :
    (((pipe m).win w).xblock ((pipe m).grid.coords t)).Idx → Elt F ((pipe m).win w).elt :=
  (((pipe m).win w).blk t).view.read (Elt F) (entry m c (Pipeline.arrRef spec0 w))

/-- The carried scratch before position `n`: anything before the first point, the edit vector afterwards. -/
def carried (h : (number m).toNat < 100000) (c : Dev nD) : ℕ → sProp 𝕄
  | 0 => iprop(∃ d, owns (c : Thread nD τ) (Memref.whole cc0_scratch4) fullShare d)
  | _ + 1 => owns (c : Thread nD τ) (Memref.whole cc0_scratch4) fullShare (editOf m h c)

theorem carried_pos (h : (number m).toNat < 100000) (c : Dev nD) {n : ℕ} (hn : n ≠ 0) :
    carried m h c n = owns (c : Thread nD τ) (Memref.whole cc0_scratch4) fullShare (editOf m h c) := by
  cases n with
  | zero => exact absurd rfl hn
  | succ n => rfl

/-- The invariant before position `n`. -/
abbrev ready (h : (number m).toNat < 100000) (c : Dev nD) (n : ℕ) : sProp 𝕄 :=
  iprop((scratch c (carried m h c n) ∗ (∃ r, prngReg c r) ∗ quiet c ∗ farHeld m c) ∗ lent c tabM (table m 0))

/-- The proof data: the arrays as the region finds them, the block of `h` left in place, the block of the result
    at the block of `h` with the edit vector added to its rows. -/
def data (h : (number m).toNat < 100000) (_ : Fin 1) (c : Dev nD) :
    Dat τ (Elt F) Unit ℕ (Pipeline.UD sig nD τ) ℕ (pipe m) c where
  A w := entry m c (Pipeline.arrRef spec0 w)
  after w t := match w with
    | ⟨0, _⟩ => blockAt m c 0 t
    | ⟨1, _⟩ => k0_pay2 (blockAt m c 0 t) (editOf m h c)
  Φ t := ready m h c t.val
  q _ := fullShare
  owed _ := 0

variable (h : (number m).toNat < 100000)

theorem data_array (c : Dev nD) (w : Fin (pipe m).W) : (data m h 0 c).A w = entry m c (Pipeline.arrRef spec0 w) := by
  dsimp only [data]
theorem data_in (c : Dev nD) (t : Fin (pipe m).N) : (data m h 0 c).after 0 t = blockAt m c 0 t := by
  dsimp only [data]; try rfl
theorem data_out (c : Dev nD) (t : Fin (pipe m).N) :
    (data m h 0 c).after 1 t = k0_pay2 (blockAt m c 0 t) (editOf m h c) := by
  dsimp only [data]; try rfl

/-- The staging buffer of `h` holds its block at every point. -/
theorem staged (c : Dev nD) (t : Fin (pipe m).N) (d) : (data m h 0 c).before 0 t d = blockAt m c 0 t :=
  ((data m h 0 c).before_in_eq_fetched 0 rfl (fun _ => rfl) (fun _ _ _ => rfl)
    (fun t => by rw [data_in]; unfold Dat.blockOf blockAt; rw [data_array]; try rfl) t d).trans
    (by unfold Dat.fetched Dat.blockOf blockAt; rw [data_array]; try rfl)

/-! ## The body at any point -/

/-- The body's branch is taken at the first point alone. -/
theorem first_iff (t : Fin grid0.N) : k0_cond1 (grid0.coords t) = 1#1 ↔ t.val = 0 := by
  have ht : t.val < 8 := Nat.lt_of_lt_of_eq t.isLt N_0
  have e0 : (grid0.coords t 0).val = t.val / 1 % 8 := Pipeline.Grid.coords_val t 0 (by decide) rfl
  simp only [k0_cond1, e0]
  word_cmp

/-- The staging memrefs at point `t`. -/
abbrev stageIn (t : Fin (pipe m).N) : Memref sig .tc .vmem S2048x1024 .f32 := spec0_0.stage ((pipe m).slots t 0)
abbrev stageOut (t : Fin (pipe m).N) : Memref sig .tc .vmem S2048x1024 .f32 := spec0_1.stage ((pipe m).slots t 1)

/-- The body as the pipeline calls it at point `t`. -/
abbrev bodyAt (t : Fin (pipe m).N) : Prog (TpuEff nD τ sig (Elt F) Λ₀ .tc) PUnit :=
  cc0__body (grid0.coords t) tabM (Memref.isWhole_whole _) newM (Memref.isWhole_whole _) oldM (Memref.isWhole_whole _)
    alphaM (Memref.isWhole_whole _) betaM (Memref.isWhole_whole _)
    (stageIn m t) (hstage0_0 (((pipe m).slots t 0).cast nbuf0_0))
    (stageOut m t) (hstage0_1 (((pipe m).slots t 1).cast nbuf0_1))
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) cc0_scratch5

/-- What the body is called with at point `t`, -/
def bodyPre (c : Dev nD) (t : Fin (pipe m).N) : sProp 𝕄 :=
  iprop((data m h 0 c).Φ t.castSucc ∗ (data m h 0 c).owesAt () t.castSucc
    ∗ (∃ d, owns (c : Thread nD τ) (stageIn m t) fullShare ((data m h 0 c).before 0 t d))
    ∗ (∃ d, owns (c : Thread nD τ) (stageOut m t) fullShare ((data m h 0 c).before 1 t d)))
/-- and what it returns. -/
def bodyPost (c : Dev nD) (t : Fin (pipe m).N) : sProp 𝕄 :=
  iprop((data m h 0 c).Φ t.succ ∗ (data m h 0 c).owesAt () t.succ
    ∗ owns (c : Thread nD τ) (stageIn m t) fullShare ((data m h 0 c).after 0 t)
    ∗ owns (c : Thread nD τ) (stageOut m t) fullShare ((data m h 0 c).after 1 t))

set_option maxHeartbeats 1600000 in
/-- The body at any point, by its two triples. -/
theorem body_at (c : Dev nD) (t : Fin (pipe m).N) :
    bodyPre m h c t ⊢ wp frame (wpE (defs₀ (F := F)) Variants.none c none) Set.univ (bodyAt m t) (fun _ => bodyPost m h c t) := by
  unfold bodyPre bodyPost bodyAt
  simp only [staged]
  rw [show (data m h 0 c).Φ t.castSucc = ready m h c t.val from rfl,
    show (data m h 0 c).Φ t.succ = ready m h c (t.val + 1) from rfl, data_in, data_out]
  unfold ready scratch quiet farHeld Dat.owesAt Pipeline.owesWithin
  rw [carried_pos m h c (Nat.succ_ne_zero t.val),
    show (data m h 0 c).owed t.castSucc = 0 from rfl, show (data m h 0 c).owed t.succ = 0 from rfl]
  obtain rfl : c = 0 := Subsingleton.elim _ _
  by_cases hz : t.val = 0
  · rw [show carried m h 0 t.val = carried m h 0 0 from congrArg _ hz]
    unfold carried
    iintro ⟨⟨⟨⟨HS0, HS1, HS4, HS2, HS3⟩, Hg, ⟨Hq0, Hq1, Hq2, Hq3⟩, ⟨Hh0, Hh1, Hh2, Hh3⟩⟩, HT⟩, ⟨%W, -, HW⟩, ⟨%d0, H0⟩, ⟨%d1, H1⟩⟩
    iapply (first_point 0 (grid0.coords t) _ _ _ _ _ _ _ _ _ _ _ _ _ _ ((first_iff t).mpr hz) (blockAt m 0 0 t) (table m 0)
      (entry m 0 main_arg2) (entry m 0 main_arg3) (entry m 0 main_v2) (entry m 0 main_v3) h W _)
    isplitl [H0]; · iexact H0
    isplitl [H1]; · iexists _; iexact H1
    isplitl [HS0]; · iexact HS0
    isplitl [HS1]; · iexact HS1
    isplitl [HS2]; · iexact HS2
    isplitl [HS3]; · iexact HS3
    isplitl [HS4]; · iexact HS4
    isplitl [HT]; · iexact HT
    isplitl [Hq0]; · iexact Hq0
    isplitl [Hq1]; · iexact Hq1
    isplitl [Hq2]; · iexact Hq2
    isplitl [Hq3]; · iexact Hq3
    isplitl [Hh0]; · iexact Hh0
    isplitl [Hh1]; · iexact Hh1
    isplitl [Hh2]; · iexact Hh2
    isplitl [Hh3]; · iexact Hh3
    isplitl [HW]; · iexact HW
    iintro ⟨H0, H1, HS0, HS1, HS2, HS3, HS4, HT, Hq0, Hq1, Hq2, Hq3, Hh0, Hh1, Hh2, Hh3, ⟨%W', HW'⟩⟩
    isplitr [H0 H1 HW']
    · isplitr [HT]
      · isplitl [HS0 HS1 HS2 HS3 HS4]
        · isplitl [HS0]; · iexact HS0
          isplitl [HS1]; · iexact HS1
          isplitl [HS4]; · iexact HS4
          isplitl [HS2]; · iexact HS2
          iexact HS3
        isplitl [Hg]; · iexact Hg
        isplitl [Hq0 Hq1 Hq2 Hq3]
        · isplitl [Hq0]; · iexact Hq0
          isplitl [Hq1]; · iexact Hq1
          isplitl [Hq2]; · iexact Hq2
          iexact Hq3
        isplitl [Hh0]; · iexact Hh0
        isplitl [Hh1]; · iexact Hh1
        isplitl [Hh2]; · iexact Hh2
        iexact Hh3
      iexact HT
    isplitl [HW']
    · iexists W'; isplitr; · ipureintro; exact fun _ _ => Or.inl trivial
      iexact HW'
    isplitl [H0]; · iexact H0
    iexact H1
  · rw [carried_pos m h 0 hz]
    iintro ⟨⟨⟨⟨HS0, HS1, HS4, HS2, HS3⟩, Hrest⟩, HT⟩, ⟨%W, -, HW⟩, ⟨%d0, H0⟩, ⟨%d1, H1⟩⟩
    iapply (later_point 0 (grid0.coords t) _ _ _ _ _ _ _ _ _ _ _ _ _ _ (fun e => hz ((first_iff t).mp e)) (blockAt m 0 0 t)
      (editOf m h 0) _)
    isplitl [H0]; · iexact H0
    isplitl [H1]; · iexists _; iexact H1
    isplitl [HS4]; · iexact HS4
    iintro ⟨H0, H1, HS4⟩
    isplitr [H0 H1 HW]
    · isplitr [HT]
      · isplitr [Hrest]
        · isplitl [HS0]; · iexact HS0
          isplitl [HS1]; · iexact HS1
          isplitl [HS4]; · iexact HS4
          isplitl [HS2]; · iexact HS2
          iexact HS3
        iexact Hrest
      iexact HT
    isplitl [HW]
    · iexists W; isplitr; · ipureintro; exact fun _ _ => Or.inl trivial
      iexact HW
    isplitl [H0]; · iexact H0
    iexact H1

/-- The pipeline's body at point `t` is the one above. -/
theorem body_eq (t : Fin (pipe m).N) :
    defs₀ (F := F) .tc (pipe m).body ((pipe m).bodyArgs t ((pipe m).slots t)) = bodyAt m t := by
  unfold defs₀; rw [Defs.onTc_tc]

theorem body_sound (c : Dev nD) : BodyObligation (data m h 0 c) (defs₀ (F := F)) Variants.none () Set.univ := fun t => by
  rw [bigSep_W0, bigSep_W0, body_eq]
  exact triple_restated (body_at m h c t) rfl .rfl fun _ => .rfl

/-! ## The launch -/

/-- What the launch hands the region is the invariant before the first point. -/
theorem enters (c : Dev nD) :
    iprop(Pipeline.ΦD ownSem spec0 far (fun c b => entry m c b) c ∗ Pipeline.ΦT pre0 (table m) c) ⊢ (data m h 0 c).Φ 0 := by
  rw [show (data m h 0 c).Φ 0 = ready m h c 0 from rfl, invariant_eq, tables_eq]
  exact Idealize.SL.BI.Entails.refl _

/-- After the last point the invariant gives it back, the table let go. -/
theorem leaves (c : Dev nD) :
    (data m h 0 c).Φ (Fin.last (pipe m).N) ⊢ Pipeline.ΦD ownSem spec0 far (fun c b => entry m c b) c := by
  rw [show (data m h 0 c).Φ (Fin.last (pipe m).N) = ready m h c (pipe m).N from rfl, invariant_eq]
  unfold ready scratch
  rw [carried_pos m h c (show (pipe m).N ≠ 0 by rw [show (pipe m).N = 8 from N_0]; decide)]
  iintro ⟨⟨⟨HS0, HS1, HS4, HS2, HS3⟩, Hrest⟩, -⟩
  isplitr [Hrest]
  · isplitl [HS0]; · iexact HS0
    isplitl [HS1]; · iexact HS1
    isplitl [HS4]; · iexists _; iexact HS4
    isplitl [HS2]; · iexact HS2
    iexact HS3
  iexact Hrest

/-- The closing reshape touches neither the table nor the far-memory operands, -/
theorem after_sub : ∀ ops ∈ [hostOps1 (F := F)], ∀ op ∈ ops, op.bufs ⊆ Pipeline.tailRefsBut (τ := τ) sig pre0 spec0 far := by
  intro ops ho op hop
  obtain rfl := List.mem_singleton.mp ho
  obtain rfl := List.mem_singleton.mp hop
  refine Pipeline.sub_tailRefsBut pre0 spec0 far _ (StableHlo.reshape_bufs_sub ..) ?_ ?_
  · intro k
    obtain rfl : k = 0 := Subsingleton.elim _ _
    simp only [StableHlo.reshape_bufs, Finset.mem_insert, Finset.mem_singleton, not_or]
    exact ⟨StableHlo.devRef_ne_of_ne (by decide), StableHlo.devRef_ne_of_ne (by decide)⟩
  · intro b hb
    simp only [StableHlo.reshape_bufs, Finset.mem_insert, Finset.mem_singleton, not_or]
    refine ⟨StableHlo.devRef_ne_of_ne fun e => ?_, StableHlo.devRef_ne_of_ne fun e => ?_⟩ <;> subst e <;> revert hb <;> decide

theorem after_fresh : ∀ ops ∈ [hostOps1 (F := F)], ∀ op ∈ ops, op.fresh = ∅ := by
  intro ops ho op hop
  obtain rfl := List.mem_singleton.mp ho
  obtain rfl := List.mem_singleton.mp hop
  rfl

/-- and writes no array of the pipeline. -/
theorem after_keep : ∀ ops ∈ [hostOps1 (F := F)], ∀ op ∈ ops, ∀ w, Proc.devRef .tc (Pipeline.arrRef spec0 w) ∉ op.writes := by
  intro ops ho op hop w
  obtain rfl := List.mem_singleton.mp ho
  obtain rfl := List.mem_singleton.mp hop
  rw [StableHlo.reshape_writes, Finset.mem_singleton]
  exact StableHlo.devRef_ne_of_ne (by revert w; decide)

/-- Every buffer at the end, of those the pipeline stages no block of. -/
abbrev final (c : Dev nD) (b : Ref sig .tc) : Buf (Elt F) ((c : Thread nD τ).loc b) :=
  Pipeline.afterTail pcfgs (fun _ => adm m) (data m h) 0 (entry m) [hostOps1] c b

set_option backward.isDefEq.respectTransparency.types false in
/-- The run: from any memory whose edited row is a row, every execution ends, with the arrays at what the proof data
    give, every other buffer at its final contents, and every semaphore at zero. -/
theorem run : θ_run defs (onTc (τ := τ) (main (F := F))) ⟨m, fun _ => 0, ρ⟩ (fun r =>
    Pipeline.FramePost (Pipeline.pin pcfgs fun _ => adm m) (data m h) 0 (final m h) r ∧ r.2.sem = fun _ => 0) :=
  Pipeline.θ_run_frameP_dma_around (Q' := _) pcfgs (fun _ => adm m) (data m h) (0 : Fin 1) launch0 ownSem defs₀ Variants.none
    ownSem_facts far far_sub m ρ main (hbody := fun c => (body_sound m h c).loose)
    (hshare := fun c => (data m h 0 c).share_full fun _ => rfl) (howed := fun _ _ => rfl) (V₀ := entry m) (opss := [hostOps1])
    (hsub := after_sub) (hfresh := after_fresh) (hkeep := after_keep) (hmain := main_around m)
    (hA := data_array m h) (hpf := entry_table m) (hin := enters m h) (hout := leaves m h)

/-! ## The final memory -/

theorem arrays_distinct : Function.Injective (Pipeline.arrRef spec0) := by decide

/-- A buffer neither staged nor written by the closing reshape ends as the region found it. -/
theorem final_kept (c : Dev nD) (b : Ref sig .tc) (hb : ∀ w, Pipeline.arrRef spec0 w ≠ b) (h5 : b ≠ main_v5) :
    final m h c b = entry m c b := by
  unfold final Pipeline.afterTail
  refine (StableHlo.after_of_forall_not_mem (b := Proc.devRef .tc b) _ _ ?_).trans (Pipeline.withArrays_of_ne spec0 c _ _ b hb)
  intro op hop
  obtain rfl := List.mem_singleton.mp hop
  rw [StableHlo.reshape_writes, Finset.mem_singleton]
  exact StableHlo.devRef_ne_of_ne h5

/-- The result is the staged array reshaped. -/
theorem final_result (c : Dev nD) :
    final m h c main_v5 = shapeCast S4x4096x1024 ((data m h 0 c).arrAt 1 (pipe m).N) shapeCasts_S16384x1024_S4x4096x1024 := by
  unfold final Pipeline.afterTail
  simp only [hostOps1, List.flatten_cons, List.flatten_nil, List.append_nil, StableHlo.after_cons, StableHlo.after_nil]
  refine (StableHlo.reshape_result main_v4 main_v5 _ _ _ _ _).trans ?_
  exact congrArg (fun a => shapeCast S4x4096x1024 a shapeCasts_S16384x1024_S4x4096x1024)
    (Pipeline.withArrays_arr spec0 arrays_distinct c _ _ 1)

/-- The arguments end as launched. -/
theorem args_kept (c : Dev nD) (r : PUnit × MemSt nD τ sig (Elt F))
    (hr : Pipeline.FramePost (Pipeline.pin pcfgs fun _ => adm m) (data m h) 0 (final m h) r) (b : Ref sig .tc)
    (hb : b ∈ [main_arg0, main_arg1, main_arg2, main_arg3, main_arg4, main_arg5]) :
    r.2.mem ((c : Thread nD τ).loc b) = m ((c : Thread nD τ).loc b) := by
  have hm : b ∈ Pipeline.restRefs sig spec0 := by revert b; decide
  refine ((hr c).2 b hm).trans ?_
  have hne : (∀ w, Pipeline.arrRef spec0 w ≠ b) ∧ b ≠ main_v5 ∧ b ≠ main_v0 ∧ b ≠ main_v1 ∧ b ≠ main_c ∧ b ≠ main_call0_v0
      ∧ b ≠ main_v2 ∧ b ≠ main_c_0 ∧ b ≠ main_call1_v0 ∧ b ≠ main_v3 := by revert b; decide
  obtain ⟨hw, h5, h0, h1, h2, h3, h4, h6, h7, h8⟩ := hne
  exact (final_kept m h c b hw h5).trans (entry_kept m c b h0 h1 h2 h3 h4 h6 h7 h8)

end Cert.Edit

end
-- ==== Proof.Result.lean ====
/- The kernel's result, of its arguments: what the pipeline leaves in the staged array, what the host lines before the
   region put into the buffers it reads, and the whole program's run read at its result. -/
module

public import proofs.«01_k».proof.Proof.Run
public import Idealize.ShloMosaic.Lib.Pipeline.ValueKit.Geometry

@[expose] public section

set_option maxRecDepth 16384

noncomputable section

namespace Cert.Edit

open Idealize.ShloMosaic Idealize.ShloMosaic.TcCoe Idealize.ShloMosaic.Tactic
open Idealize.SL.Sem
open Idealize.ShloMosaic.Pipeline (Dat Cfg Window)
open Cert.KernelIdeal Cert.KernelIdeal.Gen

variable {F : FTy → Type} [FloatOps F]

/-- A padded vector read inside the part it was padded from. -/
theorem pad_inside {e : EltTy} (x : Vec F S100000 e) (v : Vec F S_ e) {k : ℕ} (hk : k < 100000) :
    pad S100096 ![0] ![96] ![0] x v pads_S100000_S100096_0960 h_S_ (ValueIdx.ix1 ⟨k, by omega⟩) = x (ValueIdx.ix1 ⟨k, hk⟩) := by
  unfold pad
  refine (dif_pos fun a => ?_).trans (congrArg x (funext fun a => Fin.ext ?_))
  · obtain rfl : a = 0 := Subsingleton.elim _ _
    refine ⟨Nat.zero_le _, Nat.mod_one _, ?_⟩
    show (k - 0) / (0 + 1) < 100000
    omega
  · obtain rfl : a = 0 := Subsingleton.elim _ _
    show (k - 0) / (0 + 1) = k
    omega

/-- The edited row at a lane, of the arguments: the new row at its coefficient and the old row at its own. -/
abbrev lane (new old : Vec F S100000x1024 .f32) (alpha beta : Vec F S100000 .f32) (k : Fin 100000) (l : Fin 1024) : F .f32 :=
  FloatOps.addf (FloatOps.mulf (alpha (ValueIdx.ix1 k)) (new (ValueIdx.ix2 k l)))
    (FloatOps.mulf (beta (ValueIdx.ix1 k)) (old (ValueIdx.ix2 k l)))

variable (m : (ℓ : Loc nD τ sig) → Buf (Elt F) ℓ) (h : (number m).toNat < 100000)

/-- A row with the edit vector added, at an index. -/
theorem added_apply (x : Vec F S2048x1024 .f32) (e : Vec F S1x1024 .f32) (j : S2048x1024.Idx) :
    k0_pay2 x e j = FloatOps.addf (x j) (e (ValueIdx.ix2 0 (j 1))) := by
  unfold k0_pay2
  show FloatOps.addf _ _ = _
  congr 1
  · exact congrFun (shapeCast_self _ _) j
  · refine congrArg e (funext fun a => ?_)
    match a with
    | 0 => rfl
    | 1 => rfl

/-- The point's coordinate is its position. -/
theorem coord_eq (t : Fin grid0.N) : (grid0.coords t 0).val = t.val := by
  have ht : t.val < 8 := Nat.lt_of_lt_of_eq t.isLt N_0
  have e0 : (grid0.coords t 0).val = t.val / 1 % 8 := Pipeline.Grid.coords_val t 0 (by decide) rfl
  omega

/-- The blocks of `h` and of the result at point `t` begin at row `2048 t`. -/
theorem place_in (t : Fin (pipe m).N) : ((pipe m).win 0).index t = (![t.val, 0] : Fin 2 → ℕ) := by
  have ht : t.val < 8 := Nat.lt_of_lt_of_eq t.isLt N_0
  have e : (BitVec.ofNat 32 (grid0.coords t 0).val).toNat = t.val := by
    rw [coord_eq, BitVec.toNat_ofNat]; omega
  exact congrArg (fun n => (![n, 0] : Fin 2 → ℕ)) e
theorem place_out (t : Fin (pipe m).N) : ((pipe m).win 1).index t = (![t.val, 0] : Fin 2 → ℕ) :=
  place_in m t

/-- Every point writes the result's block back. -/
theorem written (t : Fin (pipe m).N) : ((pipe m).win 1).flush t = true :=
  (Pipeline.Window.flushOf_reads cc0_transform_5 reads0_1 hreads0_1 0 (by decide) (by decide)
    (Pipeline.Window.sep_of_coord cc0_transform_5 0 0 (fun _ => rfl) (by decide)) (P := 1) (m := 0) (by decide) rfl t).mpr
    (Nat.mod_one _)

/-- The blocks written back fill the result. -/
theorem covers : ((pipe m).win 1).Covers := by
  refine ⟨?_, fun β => ?_⟩
  · show ∀ a : Fin 2, 0 < (![2048, 1024] : Fin 2 → ℕ) a
    decide
  · have h0 : (β (0 : Fin 2)).val < 8 := lt_of_lt_of_eq (β (0 : Fin 2)).isLt (by show (16384 + 2048 - 1) / 2048 = 8; decide)
    have h1 : (β (1 : Fin 2)).val < 1 := lt_of_lt_of_eq (β (1 : Fin 2)).isLt (by show (1024 + 1024 - 1) / 1024 = 1; decide)
    refine ⟨⟨(β (0 : Fin 2)).val, Nat.lt_of_lt_of_eq h0 N_0.symm⟩, written m _, ?_⟩
    show ∀ a : Fin 2, _
    intro a
    rw [place_out]
    refine ⟨?_, Or.inl rfl⟩
    match a with
    | 0 => rfl
    | 1 => show 0 = (β (1 : Fin 2)).val; omega

/-- The staged result: the staged rows with the edit vector added to each. -/
abbrev edited (c : Dev nD) : Buf (Elt F) ((c : Thread nD τ).loc main_v4) := fun y : S16384x1024.Idx =>
  FloatOps.addf (entry m c main_v0 y) (editOf m h c (ValueIdx.ix2 0 (y 1)))

theorem array_out (c : Dev nD) : (data m h 0 c).arrAt 1 (pipe m).N = edited m h c := by
  refine (data m h 0 c).arrAt_eq_of_covers 1 _ (covers m) fun t _ y => ?_
  rw [data_out]
  refine (added_apply (blockAt m c 0 t) (editOf m h c) y).trans ?_
  show FloatOps.addf (entry m c main_v0 _) _ = FloatOps.addf (entry m c main_v0 _) _
  refine congrArg₂ FloatOps.addf (congrArg (entry m c main_v0) ?_) (congrArg (editOf m h c) ?_)
  · rfl
  · refine congrArg (ValueIdx.ix2 (0 : Fin 1)) (Fin.ext ?_)
    refine Eq.symm ((((pipe m).win 1).rect_emb_val t y (1 : Fin 2)).trans ?_)
    rw [place_out]
    show 0 * 1024 + _ = _
    omega

/-- What the lines before the region leave: the staged rows and the table are `h` and the number reshaped, the padded
    coefficients are the coefficients with the number zero behind them. -/
theorem entry_lines (c : Dev nD) :
    entry m c main_v0 = shapeCast S16384x1024 (m ((c : Thread nD τ).loc main_arg1)) shapeCasts_S4x4096x1024_S16384x1024
    ∧ entry m c main_v1 = shapeCast S1 (m ((c : Thread nD τ).loc main_arg0)) shapeCasts_S_S1
    ∧ entry m c main_v2 = pad S100096 ![0] ![96] ![0] (m ((c : Thread nD τ).loc main_arg4))
        (sitofp (F := F) .f32 (constantI S_ 32 0#32)) pads_S100000_S100096_0960 h_S_
    ∧ entry m c main_v3 = pad S100096 ![0] ![96] ![0] (m ((c : Thread nD τ).loc main_arg5))
        (sitofp (F := F) .f32 (constantI S_ 32 0#32)) pads_S100000_S100096_0960 h_S_ := by
  simp only [entry, before, hostOps0, hostOps0_1, hostOps0_2, hostOps0_3, List.flatten_cons, List.flatten_nil,
    List.append_nil, List.cons_append, List.nil_append, StableHlo.TRef.binary, StableHlo.TRef.unary, StableHlo.TRef.toBuf,
    StableHlo.TRef.ofBuf, cast_eq]
  refine ⟨?_, ?_, ?_, ?_⟩ <;> after_results_simp <;> rfl

/-- The number the body reads is the argument. -/
theorem number_eq : number m = m (((0 : Dev nD) : Thread nD τ).loc main_arg0) (Shape.Idx.first h_S_) := by
  show entry m 0 main_v1 _ = _
  rw [(entry_lines m 0).2.1]
  exact congrArg _ (funext fun a => Fin.elim0 a)

/-- The edit vector, of the arguments. -/
theorem editOf_lane (c : Dev nD) (l : Fin 1024) :
    editOf m h c (ValueIdx.ix2 0 l)
      = lane (m ((c : Thread nD τ).loc main_arg2)) (m ((c : Thread nD τ).loc main_arg3)) (m ((c : Thread nD τ).loc main_arg4))
          (m ((c : Thread nD τ).loc main_arg5)) ⟨(number m).toNat, h⟩ l := by
  have e2 := entry_kept m c main_arg2 (by decide) (by decide) (by decide) (by decide) (by decide) (by decide) (by decide) (by decide)
  have e3 := entry_kept m c main_arg3 (by decide) (by decide) (by decide) (by decide) (by decide) (by decide) (by decide) (by decide)
  unfold editOf edit k0_pay1
  refine (congrFun (shapeCast_self _ _) _).trans ?_
  show FloatOps.addf (FloatOps.mulf _ _) (FloatOps.mulf _ _) = _
  rw [(entry_lines m c).2.2.1, (entry_lines m c).2.2.2, e2, e3]
  exact congrArg₂ FloatOps.addf (congrArg (FloatOps.mulf · _) (pad_inside (e := .f32) _ _ h)) (congrArg (FloatOps.mulf · _) (pad_inside (e := .f32) _ _ h))

/-- The result, of the arguments: every row of `h` with the edited row added. -/
abbrev result (c : Dev nD) : Buf (Elt F) ((c : Thread nD τ).loc main_v5) := fun j : S4x4096x1024.Idx =>
  FloatOps.addf (m ((c : Thread nD τ).loc main_arg1) j)
    (lane (m ((c : Thread nD τ).loc main_arg2)) (m ((c : Thread nD τ).loc main_arg3)) (m ((c : Thread nD τ).loc main_arg4))
      (m ((c : Thread nD τ).loc main_arg5)) ⟨(number m).toNat, h⟩ (j 2))

/-- The staged row an index of the result lies in. -/
theorem row_of (j : S4x4096x1024.Idx) : Shape.reshapeEquiv shapeCasts_S16384x1024_S4x4096x1024 j 1 = j 2 := by
  have h0 : (j 0).val < 4 := (j 0).isLt
  have h1 : (j 1).val < 4096 := (j 1).isLt
  let y : S16384x1024.Idx := ValueIdx.ix2 (⟨(j 0).val * 4096 + (j 1).val, by omega⟩ : Fin 16384) (j 2 : Fin 1024)
  have e : Shape.reshapeEquiv shapeCasts_S16384x1024_S4x4096x1024 j = y :=
    Shape.reshapeEquiv_eq_of_rowMajor _ (by
      refine (Shape.rowMajor_val_two (d := ![16384, 1024]) y).trans
        (Eq.trans ?_ (Shape.rowMajor_val_three (d := ![4, 4096, 1024]) j).symm)
      rfl)
  rw [e]

theorem final_eq (c : Dev nD) : final m h c main_v5 = result m h c := by
  rw [final_result, array_out]
  funext j
  show FloatOps.addf (entry m c main_v0 _) (editOf m h c _) = _
  rw [(entry_lines m c).1]
  refine congrArg₂ FloatOps.addf ?_ ?_
  · show m ((c : Thread nD τ).loc main_arg1) _ = _
    exact congrArg (m ((c : Thread nD τ).loc main_arg1))
      ((Shape.reshapeEquiv_reshapeEquiv shapeCasts_S4x4096x1024_S16384x1024 shapeCasts_S16384x1024_S4x4096x1024 j).trans
        (Shape.reshapeEquiv_self _ j))
  · exact (congrArg (fun l => editOf m h c (ValueIdx.ix2 0 l)) (row_of j)).trans (editOf_lane m h c (j 2))

/-- The run, read: the result of the arguments, the arguments as launched, every semaphore at zero. -/
theorem run_result (ρ : Dev nD → PrngReg) : θ_run defs (onTc (τ := τ) (main (F := F))) ⟨m, fun _ => 0, ρ⟩ (fun r =>
    (∀ c : Dev nD, r.2.mem ((c : Thread nD τ).loc main_v5) = result m h c
      ∧ ∀ b ∈ [main_arg0, main_arg1, main_arg2, main_arg3, main_arg4, main_arg5],
          r.2.mem ((c : Thread nD τ).loc b) = m ((c : Thread nD τ).loc b)) ∧ r.2.sem = fun _ => 0) :=
  (θ_run defs _ _).mono (fun r hr => ⟨fun c => ⟨((hr.1 c).2 main_v5 (show main_v5 ∈ Pipeline.restRefs sig spec0 by decide)).trans (final_eq m h c),
    fun b hb => args_kept m h c r hr.1 b hb⟩, hr.2⟩) (run m ρ h)

end Cert.Edit

end
-- ==== Proof.Ref.lean ====
/- What the reference returns on an edit index in range: the same sum the kernel returns. -/
module

public import proofs.«01_k».proof.Proof.Gen.ReferenceIdeal.Run
public import proofs.«01_k».proof.Proof.Result
public import Idealize.ShloMosaic.Lib.Quiescent
public import Idealize.ShloMosaic.Lib.ReduceAll
public import Idealize.ShloMosaic.Lib.WordCmp

@[expose] public section

set_option maxRecDepth 16384

noncomputable section

namespace Cert.Plain

open Idealize.ShloMosaic Idealize.ShloMosaic.TcCoe Idealize.ShloMosaic.Tactic
open Idealize.SL.Sem
open Cert.ReferenceIdeal Cert.ReferenceIdeal.Gen

variable {F : FTy → Type} [FloatOps F]

/-- The two signed comparisons of the precondition bound the index as a natural number. -/
theorem word_lt {w : BitVec 32} (h : IntOp.andi (IntOp.cmpi .sge w 0#32) (IntOp.cmpi .sle w 99999#32) = 1#1) : w.toNat < 100000 := by
  obtain ⟨h0, h1⟩ := IntOp.andi_eq_one.1 h
  rw [WordCmp.cmpi_sge_zero, WordCmp.ofBool_decide_eq_one_iff] at h0
  rw [WordCmp.cmpi_sle_of_lt h0 (by decide), WordCmp.ofBool_decide_eq_one_iff] at h1
  have : (99999#32).toNat = 99999 := by decide
  omega

/-- An index in range passes both comparisons. -/
theorem word_ok {w : BitVec 32} (h : w.toNat < 100000) : IntOp.andi (IntOp.cmpi .sge w 0#32) (IntOp.cmpi .sle w 99999#32) = 1#1 := by
  have h0 : w.toNat < 2 ^ (32 - 1) := by omega
  have : (99999#32).toNat = 99999 := by decide
  refine IntOp.andi_eq_one.2 ⟨?_, ?_⟩
  · rw [WordCmp.cmpi_sge_zero, WordCmp.ofBool_decide_eq_one_iff]; exact h0
  · rw [WordCmp.cmpi_sle_of_lt h0 (by decide), WordCmp.ofBool_decide_eq_one_iff]; omega

/-- The reference's start index: the edit index, counted from the end of the table when it is negative. -/
abbrev startOf (e : IVec S_ 32) : IVec S1 32 :=
  broadcastInDim S1 ![] bcast_S_S1 (select (cmpi .slt e (constantI S_ 32 0#32)) (addi e (constantI S_ 32 100000#32)) e)

/-- The reference's test that the start index lies in the table. -/
abbrev inTable (i : IVec S1 32) : IVec S_ 1 :=
  Host.reduce IntOp.andi (andi (cmpi .sge i (broadcastInDim S1 ![] bcast_S_S1 (constantI S_ 32 0#32))) (cmpi .sle i (constantI S1 32 99999#32)))
    (constantI S_ 1 1#1) reducesTo_S1_S_d0 h_S_

/-- A choice on the word one takes its first value. -/
theorem one_select {α : Type} (a b : α) : Scalar.select (1#1) a b = a := if_pos rfl

theorem startOf_eq {e : IVec S_ 32} {w : BitVec 32} (he : ∀ i, e i = w) (h : w.toNat < 100000) : startOf e = fun _ => w := by
  funext j
  refine (if_neg (c := IntOp.cmpi .slt (e _) 0#32 = 1) fun hc => ?_).trans (he _)
  rw [he, WordCmp.cmpi_slt_zero] at hc
  have := (WordCmp.ofBool_decide_eq_one_iff _).1 hc
  omega

theorem inTable_eq {w : BitVec 32} (h : w.toNat < 100000) : inTable (fun _ => w) = fun _ => 1#1 :=
  funext fun j => Host.reduce_andi_one _ _ _ _ j rfl fun _ => word_ok h

/-- A word in range, read signed and clamped to the table, is its natural number. -/
theorem clamp_eq {w : BitVec 32} (h : w.toNat < 100000) : min w.toInt.toNat (100000 - 1) = w.toNat := by
  rw [WordCmp.toInt_eq_toNat_of_lt_half (show w.toNat < 2 ^ (32 - 1) by omega)]
  omega

/-- The reference's read of one entry of a vector. -/
theorem entry_of {α : Type} {w : BitVec 32} (h : w.toNat < 100000) (x : S100000.Idx → α) (j : S_.Idx) :
    Host.gather gather_S100000_S1_S__n_0_n_n_0_0_1 x (fun _ : S1.Idx => w) j = x (ValueIdx.ix1 ⟨w.toNat, h⟩) := by
  unfold Host.gather
  refine congrArg x (funext fun a => Fin.ext ?_)
  obtain rfl : a = 0 := Subsingleton.elim _ _
  exact clamp_eq h

/-- The reference's read of one row of a table. -/
theorem row_at {α : Type} {w : BitVec 32} (h : w.toNat < 100000) (x : S100000x1024.Idx → α) (l : Fin 1024) :
    Host.gather gather_S100000x1024_S1_S1024_0_0_n_n_0_0_11024 x (fun _ : S1.Idx => w) (ValueIdx.ix1 l) = x (ValueIdx.ix2 ⟨w.toNat, h⟩ l) := by
  unfold Host.gather
  refine congrArg x (funext fun a => Fin.ext ?_)
  match a with
  | ⟨0, _⟩ => exact clamp_eq h
  | ⟨1, _⟩ => exact Nat.zero_add _

/-- The lane of the edit row an index of the result reads. -/
theorem lane_of (j : S4x4096x1024.Idx) (x : S1024.Idx → F .f32) :
    broadcastInDim S4x4096x1024 ![0, 1, 2] bcast_S1x1x1024_S4x4096x1024_0_1_2 (shapeCast _ x shapeCasts_S1024_S1x1x1024) j = x (ValueIdx.ix1 (j 2)) := by
  refine congrArg x (Shape.reshapeEquiv_eq_of_rowMajor _ ?_)
  refine (Shape.rowMajor_val_one (d := ![1024]) _).trans (Eq.trans ?_ (Shape.rowMajor_val_three (d := ![1, 1, 1024]) _).symm)
  simp

/-- The reference's read of one entry of a vector at an edit index, with its fill when the index is out of the table. -/
abbrev entryAt (e : IVec S_ 32) (x : FVec F S100000 .f32) : FVec F S_ .f32 :=
  select (inTable (startOf e)) (Host.gather gather_S100000_S1_S__n_0_n_n_0_0_1 x (startOf e)) (constant S_ .f32 0x7FC00000#32)

/-- The reference's read of one row of a table at an edit index, with its fill when the index is out of the table. -/
abbrev rowAt (e : IVec S_ 32) (x : FVec F S100000x1024 .f32) : FVec F S1024 .f32 :=
  select (broadcastInDim S1024 ![] bcast_S_S1024 (inTable (startOf e))) (Host.gather gather_S100000x1024_S1_S1024_0_0_n_n_0_0_11024 x (startOf e))
    (broadcastInDim S1024 ![] bcast_S_S1024 (constant S_ .f32 0x7FC00000#32))

theorem entryAt_eq {e : IVec S_ 32} {w : BitVec 32} (he : ∀ i, e i = w) (h : w.toNat < 100000) (x : FVec F S100000 .f32) (j : S_.Idx) :
    entryAt e x j = x (ValueIdx.ix1 ⟨w.toNat, h⟩) := by
  unfold entryAt
  rw [startOf_eq he h, inTable_eq h]
  exact (one_select _ _).trans (entry_of h x j)

theorem rowAt_eq {e : IVec S_ 32} {w : BitVec 32} (he : ∀ i, e i = w) (h : w.toNat < 100000) (x : FVec F S100000x1024 .f32) (l : Fin 1024) :
    rowAt e x (ValueIdx.ix1 l) = x (ValueIdx.ix2 ⟨w.toNat, h⟩ l) := by
  unfold rowAt
  rw [startOf_eq he h, inTable_eq h]
  exact (one_select _ _).trans (row_at h x l)

/-- The reference's edit row at one lane. -/
theorem edit_at {e : IVec S_ 32} {w : BitVec 32} (he : ∀ i, e i = w) (h : w.toNat < 100000) (new old : FVec F S100000x1024 .f32)
    (alpha beta : FVec F S100000 .f32) (l : Fin 1024) :
    addf (mulf (broadcastInDim S1024 ![] bcast_S_S1024 (entryAt e alpha)) (rowAt e new))
      (mulf (broadcastInDim S1024 ![] bcast_S_S1024 (entryAt e beta)) (rowAt e old)) (ValueIdx.ix1 l)
      = Cert.Edit.lane new old alpha beta ⟨w.toNat, h⟩ l :=
  congrArg₂ FloatOps.addf (congrArg₂ FloatOps.mulf (entryAt_eq he h alpha _) (rowAt_eq he h new l))
    (congrArg₂ FloatOps.mulf (entryAt_eq he h beta _) (rowAt_eq he h old l))

/-- The reference's result on an edit index in range. -/
theorem res_eq (m : (ℓ : Loc nD τ sig) → Buf (Elt F) ℓ) (c : Dev nD) {w : BitVec 32} (he : ∀ i : S_.Idx, m ((c : Thread nD τ).loc main_arg0) i = w)
    (h : w.toNat < 100000) : Cert.ReferenceIdeal.Value.res_main_v11 m c = fun j : S4x4096x1024.Idx =>
      FloatOps.addf (m ((c : Thread nD τ).loc main_arg1) j) (Cert.Edit.lane (m ((c : Thread nD τ).loc main_arg2)) (m ((c : Thread nD τ).loc main_arg3))
        (m ((c : Thread nD τ).loc main_arg4)) (m ((c : Thread nD τ).loc main_arg5)) ⟨w.toNat, h⟩ (j 2)) :=
  funext fun j : S4x4096x1024.Idx => congrArg (FloatOps.addf (m ((c : Thread nD τ).loc main_arg1) j))
    ((lane_of j _).trans (edit_at he h _ _ _ _ _))

/-- The reference's run: it stops, leaves its arguments as they were, and no counter is up. -/
theorem run_quiet (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) ∧ r.2.sem = fun _ => 0 :=
  (θ_run defs _ _).mono (fun r hr => ⟨fun c => (hr c).2, sem_eq_zero_of_no_sems (by decide) r.2⟩) (Cert.ReferenceIdeal.Value.run m ρ)

end Cert.Plain

end
-- ==== Proof.Twin.lean ====
/- The printed kernel and its ideal twin are one program: the same procedures and the same @main, over any float values. A
   theorem of the twin, stated over any float values, is therefore a theorem of the kernel. -/
module

public import proofs.«01_k».proof.Proof.Gen.Kernel.Launch
public import proofs.«01_k».proof.Proof.Gen.KernelIdeal.Launch

@[expose] public section

set_option maxRecDepth 65536

namespace Cert.Twin
open Idealize.ShloMosaic Idealize.SL.Sem

variable {F : FTy → Type} [FloatOps F]

attribute [local instance] Cert.Kernel.Gen.facts Cert.KernelIdeal.Gen.facts

/-- The two programs' own procedures agree. -/
theorem defs₀_eq : Cert.Kernel.defs₀ (F := F) = Cert.KernelIdeal.defs₀ (F := F) := by
  unfold Cert.Kernel.defs₀ Cert.KernelIdeal.defs₀
  refine congrArg Defs.onTc ?_
  funext l x
  match l, x with
  | 0, (t, s) => with_unfolding_all rfl
  | ⟨_ + 1, h⟩, _ => exact absurd h (Nat.not_lt.2 (Nat.le_add_left _ _))
/-- Their pipelines agree. -/
theorem pcfgs_eq : Cert.Kernel.pcfgs (F := F) = Cert.KernelIdeal.pcfgs (F := F) := by
  funext l
  match l with
  | 0 => with_unfolding_all rfl
/-- Their procedures, pipelines included, agree. -/
theorem defs_eq : Cert.Kernel.defs (F := F) = Cert.KernelIdeal.defs (F := F) := by
  unfold Cert.Kernel.defs Cert.KernelIdeal.defs
  exact congrArg (Pipeline.defs _) defs₀_eq
/-- Their @main agree. -/
theorem main_eq : Cert.Kernel.main (F := F) = Cert.KernelIdeal.main (F := F) := by
  with_unfolding_all rfl

end Cert.Twin
-- ==== Proof.Frames.lean ====
/- The kernel's runs from a memory whose edit index is in range, at both of its instances: they stop, leave the arguments as
   they were, and no counter is up. -/
module

public import proofs.«01_k».proof.Proof.Gen.Pre_names_an_edit
public import proofs.«01_k».proof.Proof.Result
public import proofs.«01_k».proof.Proof.Ref
public import proofs.«01_k».proof.Proof.Twin

@[expose] public section

noncomputable section

namespace Cert.Edit

open Idealize.ShloMosaic Idealize.ShloMosaic.TcCoe Idealize.ShloMosaic.Tactic
open Idealize.SL.Sem
open Cert.KernelIdeal Cert.KernelIdeal.Gen

variable {F : FTy → Type} [FloatOps F]

attribute [local instance] Cert.Pre_names_an_edit.Gen.facts Cert.Kernel.Gen.facts

/-- The precondition read at one of the kernel's memories: the edit index is a row of the tables. -/
abbrev Names (m : (ℓ : Loc nD τ sig) → Buf (Elt F) ℓ) : Prop := ∀ c : Dev nD,
  Cert.Pre_names_an_edit.fn (F := F) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) = fun _ => 1#1

theorem number_lt {m : (ℓ : Loc nD τ sig) → Buf (Elt F) ℓ} (hp : Names m) : (number m).toNat < 100000 :=
  Cert.Plain.word_lt (by rw [number_eq m]; exact congrFun (hp 0) (Shape.Idx.first h_S_))

/-- The six arguments after a run, from one statement over their list. -/
theorem six {P : Ref sig .tc → Prop} (h : ∀ b ∈ [main_arg0, main_arg1, main_arg2, main_arg3, main_arg4, main_arg5], P b) :
    P main_arg0 ∧ P main_arg1 ∧ P main_arg2 ∧ P main_arg3 ∧ P main_arg4 ∧ P main_arg5 := by
  simpa only [List.forall_mem_cons, List.not_mem_nil, false_imp_iff, implies_true, and_true] using h

/-- The kernel's frame, over any float values. -/
theorem frame (m : (ℓ : Loc nD τ sig) → Buf (Elt F) ℓ) (ρ : Dev nD → PrngReg) (hp : Names m) :
    θ_run defs (onTc (τ := τ) (main (F := F))) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) ∧ r.2.sem = fun _ => 0 :=
  (θ_run defs _ _).mono (fun r hr => ⟨fun c => six (P := fun b => r.2.mem ((c : Thread nD τ).loc b) = m ((c : Thread nD τ).loc b)) (hr.1 c).2, hr.2⟩)
    (run_result m (number_lt hp) ρ)

end Cert.Edit

end
-- ==== Proof.lean ====
/- The certificate's claims, assembled: the kernel's frames (Frames), the reference's (Ref), and the equation of the two results
   over the extended reals (Result and Ref). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.Pre_names_an_edit
public import proofs.«01_k».proof.Proof.Frames
public import Idealize.ShloMosaic.Adequacy
public import Idealize.ShloMosaic.Init

@[expose] public section

noncomputable section

namespace Cert.Proof

open Idealize.ShloMosaic Idealize.SL.Sem Cert.Kernel

open Idealize.ShloMosaic.TcCoe

attribute [local instance] Cert.Kernel.Gen.facts Cert.KernelIdeal.Gen.facts Cert.ReferenceIdeal.Gen.facts Cert.Pre_names_an_edit.Gen.facts

/-- The kernel's frame. -/
theorem frame_kernel : Cert.quiescent_Kernel := by
  intro m g hp
  rw [Cert.Twin.defs_eq, Cert.Twin.main_eq]
  exact Cert.Edit.frame (F := Bits) m g hp

/-- Kernel and reference return the same array over the extended reals. -/
theorem same_result : Cert.algebraic_KernelIdeal_ReferenceIdeal := by
  intro m g m' g' hp ha
  have h := Cert.Edit.number_lt hp
  refine ⟨Cert.Edit.result m h, (θ_run _ _ _).mono (fun r hr c => ⟨(hr.1 c).1,
    Cert.Edit.six (P := fun b => r.2.mem ((c.tc : Thread Cert.KernelIdeal.nD Cert.KernelIdeal.τ).loc b) = m ((c.tc : Thread Cert.KernelIdeal.nD Cert.KernelIdeal.τ).loc b)) (hr.1 c).2⟩) (Cert.Edit.run_result m h g), ?_⟩
  refine (θ_run _ _ _).mono (fun r hr c => ⟨(hr c).1.trans ?_, (hr c).2⟩) (Cert.ReferenceIdeal.Value.run m' g')
  obtain ⟨a0, a1, a2, a3, a4, a5⟩ := ha c
  have hc : c = 0 := Subsingleton.elim _ _
  refine (Cert.Plain.res_eq m' c (w := Cert.Edit.number m) (fun i => ?_) h).trans ?_
  · subst hc
    rw [a0, Cert.Edit.number_eq m]
    exact congrArg _ (Subsingleton.elim _ _)
  · rw [a1, a2, a3, a4, a5]
    rfl

/-- Every claim of the certificate. -/
theorem claim : Cert.Claim := ⟨Cert.Kernel.Gen.facts, Cert.KernelIdeal.Gen.facts, Cert.ReferenceIdeal.Gen.facts, Cert.Pre_names_an_edit.Gen.facts,
  frame_kernel, fun m g hp => Cert.Edit.frame m g hp, fun m g _ => Cert.Plain.run_quiet m g, fun m g _ => Cert.Plain.run_quiet m g,
  trivial, same_result⟩

end Cert.Proof

end
